-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_table [hPre_labels_in_table : Cert.Pre_labels_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_table [hPre_labels_in_table : Cert.Pre_labels_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_labels_in_table [hKernelIdeal : Cert.KernelIdeal.Facts] [hPre_labels_in_table : Cert.Pre_labels_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_labels_in_table [hReferenceIdeal : Cert.ReferenceIdeal.Facts] [hPre_labels_in_table : Cert.Pre_labels_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_size" .f32 0x3A820821#32 ((1008⁻¹ : ℝ) : EReal)

def algebraic_KernelIdeal_ReferenceIdeal_pre_labels_in_table [hKernelIdeal : Cert.KernelIdeal.Facts] [hReferenceIdeal : Cert.ReferenceIdeal.Facts] [hPre_labels_in_table : Cert.Pre_labels_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_labels_in_table : Cert.Pre_labels_in_table.Facts),
    quiescent_Kernel (hKernel := hKernel)
    ∧ quiescent_KernelIdeal (hKernelIdeal := hKernelIdeal)
    ∧ quiescent_KernelIdeal_pre_labels_in_table (hKernelIdeal := hKernelIdeal) (hPre_labels_in_table := hPre_labels_in_table)
    ∧ quiescent_ReferenceIdeal (hReferenceIdeal := hReferenceIdeal)
    ∧ quiescent_ReferenceIdeal_pre_labels_in_table (hReferenceIdeal := hReferenceIdeal) (hPre_labels_in_table := hPre_labels_in_table)
    ∧ preserves_Kernel_KernelIdeal
    ∧ algebraic_KernelIdeal_ReferenceIdeal_pre_labels_in_table (hKernelIdeal := hKernelIdeal) (hReferenceIdeal := hReferenceIdeal) (hPre_labels_in_table := hPre_labels_in_table)
-- ==== Pre_labels_in_table.lean ====
abbrev S32x64x2 : Shape := ⟨3, ![32, 64, 2]⟩
abbrev S32x64 : Shape := ⟨2, ![32, 64]⟩
abbrev S2x128 : Shape := ⟨2, ![2, 128]⟩
abbrev S4x256 : Shape := ⟨2, ![4, 256]⟩
abbrev S1x256 : Shape := ⟨2, ![1, 256]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : FVec F S32x64x2 .f32) (main_arg1 : IVec S32x64 32) (main_arg2 : FVec F S2x128 .f32) (main_arg3 : FVec F S4x256 .f32) (main_arg4 : FVec F S1x256 .f32) (main_arg5 : FVec F S1x256 .f32) : IVec S32x64 1 :=
  let main_c : IVec S_ 32 := constantI S_ 32 4#32
  let main_v0 : IVec S32x64 32 := broadcastInDim S32x64 ![] bcast_S_S32x64 main_c
  let main_v1 : IVec S32x64 1 := cmpi .slt main_arg1 main_v0
  main_v1
-- ==== Kernel.lean ====
abbrev S32x64x2 : Shape := ⟨3, ![32, 64, 2]⟩
abbrev S32x64 : Shape := ⟨2, ![32, 64]⟩
abbrev S2x128 : Shape := ⟨2, ![2, 128]⟩
abbrev S4x256 : Shape := ⟨2, ![4, 256]⟩
abbrev S1x256 : Shape := ⟨2, ![1, 256]⟩
abbrev S_ : Shape := ⟨0, ![]⟩
abbrev S32x1x2 : Shape := ⟨3, ![32, 1, 2]⟩
abbrev S32x65x2 : Shape := ⟨3, ![32, 65, 2]⟩
abbrev S32x65x1 : Shape := ⟨3, ![32, 65, 1]⟩
abbrev S32x1 : Shape := ⟨2, ![32, 1]⟩
abbrev S32x65 : Shape := ⟨2, ![32, 65]⟩
abbrev S32x65x256 : Shape := ⟨3, ![32, 65, 256]⟩
abbrev S32x72x72x256 : Shape := ⟨4, ![32, 72, 72, 256]⟩
abbrev S1x72x72x256 : Shape := ⟨4, ![1, 72, 72, 256]⟩
abbrev S9 : Shape := ⟨1, ![9]⟩
abbrev S1x1x1x256 : Shape := ⟨4, ![1, 1, 1, 256]⟩
abbrev S1 : Shape := ⟨1, ![1]⟩
abbrev S1x128 : Shape := ⟨2, ![1, 128]⟩
abbrev S1x1x128 : Shape := ⟨3, ![1, 1, 128]⟩
abbrev S32x65x128 : Shape := ⟨3, ![32, 65, 128]⟩
abbrev S1x1x256 : Shape := ⟨3, ![1, 1, 256]⟩
abbrev S32x256x72x72 : Shape := ⟨4, ![32, 256, 72, 72]⟩

abbrev nBuf : Space → Nat
  | .hbm => 22
  | .vmem => 9
  | .smem => 0
  | _ => 0

abbrev bufTy : (tb : Table) → Fin (tcTables nBuf tb) → BufTy
  | .hbm, ⟨0, _⟩ => ⟨S32x64x2, .f32⟩
  | .hbm, ⟨1, _⟩ => ⟨S32x64, .i32⟩
  | .hbm, ⟨2, _⟩ => ⟨S2x128, .f32⟩
  | .hbm, ⟨3, _⟩ => ⟨S4x256, .f32⟩
  | .hbm, ⟨4, _⟩ => ⟨S1x256, .f32⟩
  | .hbm, ⟨5, _⟩ => ⟨S1x256, .f32⟩
  | .hbm, ⟨6, _⟩ => ⟨S_, .f32⟩
  | .hbm, ⟨7, _⟩ => ⟨S32x64x2, .f32⟩
  | .hbm, ⟨8, _⟩ => ⟨S32x64x2, .f32⟩
  | .hbm, ⟨9, _⟩ => ⟨S_, .f32⟩
  | .hbm, ⟨10, _⟩ => ⟨S32x1x2, .f32⟩
  | .hbm, ⟨11, _⟩ => ⟨S32x65x2, .f32⟩
  | .hbm, ⟨12, _⟩ => ⟨S32x65x1, .f32⟩
  | .hbm, ⟨13, _⟩ => ⟨S32x65x1, .f32⟩
  | .hbm, ⟨14, _⟩ => ⟨S_, .i32⟩
  | .hbm, ⟨15, _⟩ => ⟨S32x1, .i32⟩
  | .hbm, ⟨16, _⟩ => ⟨S32x1, .i32⟩
  | .hbm, ⟨17, _⟩ => ⟨S32x65, .i32⟩
  | .hbm, ⟨18, _⟩ => ⟨S32x65x1, .i32⟩
  | .hbm, ⟨19, _⟩ => ⟨S32x65x256, .f32⟩
  | .hbm, ⟨20, _⟩ => ⟨S32x72x72x256, .f32⟩
  | .hbm, ⟨21, _⟩ => ⟨S32x256x72x72, .f32⟩
  | .local _ .vmem, ⟨0, _⟩ => ⟨S32x65x1, .f32⟩
  | .local _ .vmem, ⟨1, _⟩ => ⟨S32x65x1, .f32⟩
  | .local _ .vmem, ⟨2, _⟩ => ⟨S32x65x1, .i32⟩
  | .local _ .vmem, ⟨3, _⟩ => ⟨S2x128, .f32⟩
  | .local _ .vmem, ⟨4, _⟩ => ⟨S4x256, .f32⟩
  | .local _ .vmem, ⟨5, _⟩ => ⟨S1x256, .f32⟩
  | .local _ .vmem, ⟨6, _⟩ => ⟨S1x256, .f32⟩
  | .local _ .vmem, ⟨7, _⟩ => ⟨S1x72x72x256, .f32⟩
  | .local _ .vmem, ⟨8, _⟩ => ⟨S32x65x256, .f32⟩
  | _, _ => ⟨S32x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x65x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x65x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x65x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "inv_size" => some ((1008⁻¹ : ℝ) : EReal)
  | _ => none
-- ==== ReferenceIdeal.lean ====
abbrev S32x64x2 : Shape := ⟨3, ![32, 64, 2]⟩
abbrev S32x64 : Shape := ⟨2, ![32, 64]⟩
abbrev S2x128 : Shape := ⟨2, ![2, 128]⟩
abbrev S4x256 : Shape := ⟨2, ![4, 256]⟩
abbrev S1x256 : Shape := ⟨2, ![1, 256]⟩
abbrev S_ : Shape := ⟨0, ![]⟩
abbrev S32x1x2 : Shape := ⟨3, ![32, 1, 2]⟩
abbrev S32x65x2 : Shape := ⟨3, ![32, 65, 2]⟩
abbrev S32x1 : Shape := ⟨2, ![32, 1]⟩
abbrev S32x65 : Shape := ⟨2, ![32, 65]⟩
abbrev S32x65x1 : Shape := ⟨3, ![32, 65, 1]⟩
abbrev S32x65x128 : Shape := ⟨3, ![32, 65, 128]⟩
abbrev S32x65x256 : Shape := ⟨3, ![32, 65, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x256x1x1 : Shape := ⟨4, ![1, 256, 1, 1]⟩
abbrev S32x256x72x72 : Shape := ⟨4, ![32, 256, 72, 72]⟩

abbrev nBuf : Space → Nat
  | .hbm => 100
  | .vmem => 0
  | .smem => 0
  | _ => 0

abbrev bufTy : (tb : Table) → Fin (tcTables nBuf tb) → BufTy
  | .hbm, ⟨0, _⟩ => ⟨S32x64x2, .f32⟩
  | .hbm, ⟨1, _⟩ => ⟨S32x64, .i32⟩
  | .hbm, ⟨2, _⟩ => ⟨S2x128, .f32⟩
  | .hbm, ⟨3, _⟩ => ⟨S4x256, .f32⟩
  | .hbm, ⟨4, _⟩ => ⟨S1x256, .f32⟩
  | .hbm, ⟨5, _⟩ => ⟨S1x256, .f32⟩
  | .hbm, ⟨6, _⟩ => ⟨S_, .f32⟩
  | .hbm, ⟨7, _⟩ => ⟨S32x64x2, .f32⟩
  | .hbm, ⟨8, _⟩ => ⟨S32x64x2, .f32⟩
  | .hbm, ⟨9, _⟩ => ⟨S32x1x2, .f32⟩
  | .hbm, ⟨10, _⟩ => ⟨S_, .f32⟩
  | .hbm, ⟨11, _⟩ => ⟨S32x1x2, .f32⟩
  | .hbm, ⟨12, _⟩ => ⟨S32x65x2, .f32⟩
  | .hbm, ⟨13, _⟩ => ⟨S32x1, .i32⟩
  | .hbm, ⟨14, _⟩ => ⟨S_, .i32⟩
  | .hbm, ⟨15, _⟩ => ⟨S32x1, .i32⟩
  | .hbm, ⟨16, _⟩ => ⟨S32x1, .i32⟩
  | .hbm, ⟨17, _⟩ => ⟨S32x65, .i32⟩
  | .hbm, ⟨18, _⟩ => ⟨S32x65x1, .f32⟩
  | .hbm, ⟨19, _⟩ => ⟨S_, .f32⟩
  | .hbm, ⟨20, _⟩ => ⟨S32x65x1, .f32⟩
  | .hbm, ⟨21, _⟩ => ⟨S32x65x1, .f32⟩
  | .hbm, ⟨22, _⟩ => ⟨S32x65x1, .f32⟩
  | .hbm, ⟨23, _⟩ => ⟨S_, .f32⟩
  | .hbm, ⟨24, _⟩ => ⟨S32x65x1, .f32⟩
  | .hbm, ⟨25, _⟩ => ⟨S32x65x1, .f32⟩
  | .hbm, ⟨26, _⟩ => ⟨S32x65x2, .f32⟩
  | .hbm, ⟨27, _⟩ => ⟨S_, .f32⟩
  | .hbm, ⟨28, _⟩ => ⟨S32x65x2, .f32⟩
  | .hbm, ⟨29, _⟩ => ⟨S32x65x2, .f32⟩
  | .hbm, ⟨30, _⟩ => ⟨S_, .f32⟩
  | .hbm, ⟨31, _⟩ => ⟨S32x65x2, .f32⟩
  | .hbm, ⟨32, _⟩ => ⟨S32x65x2, .f32⟩
  | .hbm, ⟨33, _⟩ => ⟨S32x65x128, .f32⟩
  | .hbm, ⟨34, _⟩ => ⟨S_, .f32⟩
  | .hbm, ⟨35, _⟩ => ⟨S32x65x128, .f32⟩
  | .hbm, ⟨36, _⟩ => ⟨S32x65x128, .f32⟩
  | .hbm, ⟨37, _⟩ => ⟨S32x65x128, .f32⟩
  | .hbm, ⟨38, _⟩ => ⟨S32x65x128, .f32⟩
  | .hbm, ⟨39, _⟩ => ⟨S32x65x256, .f32⟩
  | .hbm, ⟨40, _⟩ => ⟨S256, .f32⟩
  | .hbm, ⟨41, _⟩ => ⟨S_, .i32⟩
  | .hbm, ⟨42, _⟩ => ⟨S32x65, .i32⟩
  | .hbm, ⟨43, _⟩ => ⟨S32x65, .i1⟩
  | .hbm, ⟨44, _⟩ => ⟨S32x65, .f32⟩
  | .hbm, ⟨45, _⟩ => ⟨S32x65x1, .f32⟩
  | .hbm, ⟨46, _⟩ => ⟨S_, .f32⟩
  | .hbm, ⟨47, _⟩ => ⟨S32x65x1, .f32⟩
  | .hbm, ⟨48, _⟩ => ⟨S32x65x1, .f32⟩
  | .hbm, ⟨49, _⟩ => ⟨S32x65x256, .f32⟩
  | .hbm, ⟨50, _⟩ => ⟨S32x65x256, .f32⟩
  | .hbm, ⟨51, _⟩ => ⟨S1x1x256, .f32⟩
  | .hbm, ⟨52, _⟩ => ⟨S32x65x256, .f32⟩
  | .hbm, ⟨53, _⟩ => ⟨S32x65x256, .f32⟩
  | .hbm, ⟨54, _⟩ => ⟨S32x65x256, .f32⟩
  | .hbm, ⟨55, _⟩ => ⟨S32x65x256, .f32⟩
  | .hbm, ⟨56, _⟩ => ⟨S_, .i32⟩
  | .hbm, ⟨57, _⟩ => ⟨S32x65, .i32⟩
  | .hbm, ⟨58, _⟩ => ⟨S32x65, .i1⟩
  | .hbm, ⟨59, _⟩ => ⟨S32x65, .f32⟩
  | .hbm, ⟨60, _⟩ => ⟨S32x65x1, .f32⟩
  | .hbm, ⟨61, _⟩ => ⟨S32x65x256, .f32⟩
  | .hbm, ⟨62, _⟩ => ⟨S32x65x256, .f32⟩
  | .hbm, ⟨63, _⟩ => ⟨S_, .i32⟩
  | .hbm, ⟨64, _⟩ => ⟨S32x65, .i32⟩
  | .hbm, ⟨65, _⟩ => ⟨S32x65, .i32⟩
  | .hbm, ⟨66, _⟩ => ⟨S_, .i32⟩
  | .hbm, ⟨67, _⟩ => ⟨S32x65, .i32⟩
  | .hbm, ⟨68, _⟩ => ⟨S32x65, .i1⟩
  | .hbm, ⟨69, _⟩ => ⟨S_, .i32⟩
  | .hbm, ⟨70, _⟩ => ⟨S32x65, .i32⟩
  | .hbm, ⟨71, _⟩ => ⟨S32x65, .i32⟩
  | .hbm, ⟨72, _⟩ => ⟨S32x65, .i32⟩
  | .hbm, ⟨73, _⟩ => ⟨S32x65x1, .i32⟩
  | .hbm, ⟨74, _⟩ => ⟨S1, .i32⟩
  | .hbm, ⟨75, _⟩ => ⟨S_, .i32⟩
  | .hbm, ⟨76, _⟩ => ⟨S32x65x1, .i32⟩
  | .hbm, ⟨77, _⟩ => ⟨S32x65x1, .i1⟩
  | .hbm, ⟨78, _⟩ => ⟨S1x1x1, .i32⟩
  | .hbm, ⟨79, _⟩ => ⟨S32x65x1, .i32⟩
  | .hbm, ⟨80, _⟩ => ⟨S32x65x1, .i1⟩
  | .hbm, ⟨81, _⟩ => ⟨S32x65x1, .i1⟩
  | .hbm, ⟨82, _⟩ => ⟨S_, .i1⟩
  | .hbm, ⟨83, _⟩ => ⟨S32x65, .i1⟩
  | .hbm, ⟨84, _⟩ => ⟨S32x65x256, .f32⟩
  | .hbm, ⟨85, _⟩ => ⟨S32x65x256, .i1⟩
  | .hbm, ⟨86, _⟩ => ⟨S_, .f32⟩
  | .hbm, ⟨87, _⟩ => ⟨S32x65x256, .f32⟩
  | .hbm, ⟨88, _⟩ => ⟨S32x65x256, .f32⟩
  | .hbm, ⟨89, _⟩ => ⟨S_, .i32⟩
  | .hbm, ⟨90, _⟩ => ⟨S32x65, .i32⟩
  | .hbm, ⟨91, _⟩ => ⟨S32x65, .i1⟩
  | .hbm, ⟨92, _⟩ => ⟨S32x65, .f32⟩
  | .hbm, ⟨93, _⟩ => ⟨S32x65x1, .f32⟩
  | .hbm, ⟨94, _⟩ => ⟨S32x65x256, .f32⟩
  | .hbm, ⟨95, _⟩ => ⟨S32x65x256, .f32⟩
  | .hbm, ⟨96, _⟩ => ⟨S32x65x256, .f32⟩
  | .hbm, ⟨97, _⟩ => ⟨S256, .f32⟩
  | .hbm, ⟨98, _⟩ => ⟨S1x256x1x1, .f32⟩
  | .hbm, ⟨99, _⟩ => ⟨S32x256x72x72, .f32⟩
  | _, _ => ⟨S32x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_call0_c : Ref sig .tc := ⟨.hbm, 66, rfl⟩
abbrev main_call0_v0 : Ref sig .tc := ⟨.hbm, 67, rfl⟩
abbrev main_call0_v1 : Ref sig .tc := ⟨.hbm, 68, rfl⟩
abbrev main_call0_c_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_c_1 : Ref sig .tc := ⟨.hbm, 74, rfl⟩
abbrev main_call0_c_2 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_3 : Ref sig .tc := ⟨.hbm, 82, rfl⟩
abbrev main_call0_v12 : Ref sig .tc := ⟨.hbm, 83, rfl⟩
abbrev main_call0_v13 : Ref sig .tc := ⟨.hbm, 84, rfl⟩
abbrev main_call0_v14 : Ref sig .tc := ⟨.hbm, 85, rfl⟩
abbrev main_call0_cst : Ref sig .tc := ⟨.hbm, 86, rfl⟩
abbrev main_call0_v15 : Ref sig .tc := ⟨.hbm, 87, rfl⟩
abbrev main_v48 : Ref sig .tc := ⟨.hbm, 88, rfl⟩
abbrev main_c_10 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩

abbrev nD : Nat := 1
abbrev τ : Topo := Topo.v7x

variable {F : FTy → Type} [FloatOps F]
-- ==== Proof.Fan.lean ====
/-
  A FAN of transfers: one source copied, by local transfers, into 32 disjoint windows. Window `t`'s transfer completes on
  semaphore cell `t % 8`, so each of the 8 cells carries four of them. All 32 are issued in order, then all 32 are waited
  for in order.

  The issues and the waits are stated ONCE, at a symbolic transfer number: `fan_issue` (transfer `t`) and `fan_wait` (wait
  `w`). The bookkeeping between two transfers is the assertion `fan`, between two waits `fanDrain`.
-/
module

public import Idealize.ShloMosaic.Lib.VecWindow
public import Idealize.ShloMosaic.Lib.Batch
public import Idealize.ShloMosaic.Lib.Ring
public import Idealize.ShloMosaic.Lib.Tactic
public import Idealize.ShloMosaic.Lib.Pipeline.Kit

@[expose] public section

noncomputable section

namespace Cert.Fan

open Idealize.ShloMosaic Idealize.ShloMosaic.Tactic
open Idealize.SL Idealize.SL.RA
open Idealize.SL.BI (sProp bigSep Storable bigSep_univ_update bigSep_congr bigSep_mono bigSep_fupd bigSep_univ_equiv
  bigSep_univ_prod bigSep_sep')
open scoped Idealize.SL.BI
open Idealize.SL.BI.BIBase Idealize.SL.BI.Laws Idealize.SL.ProofMode Idealize.SL.Sem
open Idealize.ShloMosaic.Transfers
open Idealize.ShloMosaic.Ring (lead_disjoint lead_cover pointsTo_sub_blocks)

variable {nD : ℕ} {τ : Topo} {sig : RefSig} {Val : EltTy → Type} {U : Type} [URA U]

local notation "𝕄" => MT nD τ sig Unit Val ℕ U ℕ

variable (EC : UEmb Counters (MT nD τ sig Unit Val ℕ U ℕ)) [EC.LandsIn (upEmb : UEmb _ (MT nD τ sig Unit Val ℕ U ℕ))]
variable (c : Thread nD τ) {sp sp' : Space} {s : Shape} {e : EltTy}
variable (src : Memref sig c.2.kind sp s e) (wins : Fin 32 → Memref sig c.2.kind sp' s e) (cell : Fin 8 → DmaSem sig) (N : ℕ)
variable (q : PosShare TreeShare) (fs : Buf Val (src.view.loc c))
variable (fd fa : (t : Fin 32) → Buf Val ((wins t).view.loc c))

/-- The number of transfers, of the first `g` of the fan, that complete on cell `k`. -/
def cnt (g : ℕ) (k : Fin 8) : ℕ := (g + 7 - k.val) / 8

/-- The `i`-th transfer of cell `k`, as a transfer of the fan. -/
def nth (k : Fin 8) (i : Fin 4) : Fin 32 := ⟨8 * i.val + k.val, by omega⟩

/-- Transfer `t`'s read share of the source. -/
def tok (t : Fin 32) : sProp 𝕄 := (src.view.loc c) ↦[src.view.set]{shareTok q 32 t} fs

/-- What transfer `t` starts from: window `t` at its contents `fd t`, and the read share of the source. -/
def before (t : Fin 32) : sProp 𝕄 :=
  iprop((((wins t).view.loc c) ↦[(wins t).view.set]{fullShare} fd t) ∗ tok c src q fs t)

/-- What transfer `t` delivers: window `t` at its contents `fa t`, and the read share of the source. -/
def deliv (t : Fin 32) : sProp 𝕄 :=
  iprop((((wins t).view.loc c) ↦[(wins t).view.set]{fullShare} fa t) ∗ tok c src q fs t)

instance deliv_storable (t : Fin 32) : Storable (upEmb : UEmb _ 𝕄) (deliv c src wins q fs fa t) := by
  unfold deliv tok; infer_instance

/-- Cell `k`'s batch with `j` of its four transfers issued and `u` units consumed. -/
def batch (k : Fin 8) (j u : ℕ) : sProp 𝕄 :=
  Batch EC c (.dma (cell k)) () N (fun i : Fin 4 => deliv c src wins q fs fa (nth k i)) j u

/-- The fan with its first `g` transfers issued and none waited for. -/
def fan (g : ℕ) : sProp 𝕄 :=
  iprop(bigSep (pending g) (before c src wins q fs fd)
    ∗ bigSep Finset.univ fun k : Fin 8 => batch EC c src wins cell N q fs fa k (cnt g k) 0)

/-- The fan with every transfer issued and the first `w` waits done. -/
def fanDrain (w : ℕ) : sProp 𝕄 :=
  iprop((bigSep Finset.univ fun k : Fin 8 => batch EC c src wins cell N q fs fa k 4 (cnt w k * N))
    ∗ ∃ W, owes c 0 W)

/-- START: every window and read share, and the eight cells' counters at zero, are the fan with nothing issued. -/
theorem fan_start :
    iprop((bigSep Finset.univ (before c src wins q fs fd)) ∗ bigSep Finset.univ fun k : Fin 8 => semVal ((c, .dma (cell k)) : GSem nD τ sig) 0)
      ⊢ (|={Set.univ}=> fan EC c src wins cell N q fs fd fa 0 : sProp 𝕄) := by
  have alloc : (bigSep Finset.univ fun k : Fin 8 => semVal ((c, .dma (cell k)) : GSem nD τ sig) 0)
      ⊢ (|={Set.univ}=> bigSep Finset.univ fun k : Fin 8 => batch EC c src wins cell N q fs fa k (cnt 0 k) 0 : sProp 𝕄) := by
    refine (bigSep_mono fun k _ => ?_).trans (bigSep_fupd _ _)
    have h0 : cnt 0 k = 0 := by unfold cnt; omega
    rw [h0]
    exact batch_alloc' (Lvl := ℕ) EC c () N (fun i : Fin 4 => deliv c src wins q fs fa (nth k i))
  iintro ⟨Hw, Hs⟩
  imod alloc $$ Hs with Hb
  imodintro
  unfold fan
  isplitl [Hw]
  · rw [pending_zero]; iexact Hw
  · iexact Hb

variable {Λ : Labels} {defs : Defs nD τ sig Val Λ} (𝒱 : Variants) (bd : Option 𝒱.V)
variable {α : Type} {Q : α → sProp (MT nD τ sig Unit Val ℕ U ℕ)}

/-- One cell's count moves by one at a transfer of its own and stays at every other. -/
theorem cnt_succ (t : ℕ) (ht : t < 32) (k : Fin 8) : cnt (t + 1) k = if k.val = t % 8 then cnt t k + 1 else cnt t k := by
  unfold cnt; have := k.isLt; split <;> omega

/-- ISSUE of transfer `t`: holding the fan with `t` issued, the core starts the transfer and goes on holding the fan with
    `t + 1` issued. -/
theorem fan_issue (t : ℕ) (ht : t < 32)
    {dst : Memref sig c.2.kind sp' s e} (hd : dst = wins ⟨t, ht⟩) {sm : DmaSem sig} (hs : sm = cell ⟨t % 8, by omega⟩)
    {hsrc : src.view.WordExact} {hdst : dst.view.WordExact} {hsem : DmaTarget.Typed (nD := nD) sp (.dma sm) (.here dst)}
    {k : PUnit → Prog (TpuEff nD τ sig Val Λ c.2) α}
    (hN : dst.view.amount (.dma sm) = N)
    (hw : ∀ i ∈ (wins ⟨t, ht⟩).view.set,
      (wins ⟨t, ht⟩).view.write Val (fd ⟨t, ht⟩) ((ReadAs.same : ReadAs Val s e s e).apply (src.view.read Val fs)) Finset.univ i = fa ⟨t, ht⟩ i) :
    fan EC c src wins cell N q fs fd fa t
      ⊢ iprop((fan EC c src wins cell N q fs fd fa (t + 1) -∗ wp frame (wpE defs 𝒱 c bd) Set.univ (k ⟨⟩) Q)
          -∗ wp frame (wpE defs 𝒱 c bd) Set.univ (.op (.enqueueDmaAs src (.here dst) .same (.dma sm) hsrc hdst hsem) k) Q) := by
  subst hd hs
  set κ : Fin 8 := ⟨t % 8, by omega⟩ with hκ
  have hupd := bigSep_univ_update (M := 𝕄) (Φ := fun k : Fin 8 => batch EC c src wins cell N q fs fa k (cnt t k) 0)
    (Ψ := fun k : Fin 8 => batch EC c src wins cell N q fs fa k (cnt (t + 1) k) 0) κ (fun j hj => by
      have hne : ¬ j.val = t % 8 := fun h => hj (Fin.ext h)
      simp only [cnt_succ t ht, if_neg hne])
  have hc : cnt (t + 1) κ = cnt t κ + 1 := by rw [cnt_succ t ht, if_pos rfl]
  have hlt : cnt t κ < 4 := by unfold cnt; simp only [hκ]; omega
  have hn : nth κ ⟨cnt t κ, hlt⟩ = ⟨t, ht⟩ := by
    unfold nth; ext; simp only [cnt, hκ]; omega
  unfold fan
  rw [bigSep_pending_step (before c src wins q fs fd) t ht]
  iintro ⟨⟨Hb, Hpend⟩, Hbat⟩ Hk
  ihave H := hupd $$ Hbat
  icases H with ⟨Hme, Hback⟩
  unfold before tok
  icases Hb with ⟨Hd, Hs⟩
  have hD : iprop(((wins ⟨t, ht⟩).view.loc c ↦[(wins ⟨t, ht⟩).view.set]{fullShare}
        ((wins ⟨t, ht⟩).view.write Val (fd ⟨t, ht⟩) ((ReadAs.same : ReadAs Val s e s e).apply (src.view.read Val fs)) Finset.univ))
      ∗ (src.view.loc c ↦[src.view.set]{shareTok q 32 ⟨t, ht⟩} fs))
      ⊢ (deliv c src wins q fs fa (nth κ ⟨cnt t κ, hlt⟩) : sProp 𝕄) := by
    rw [hn]
    unfold deliv tok
    rw [pointsTo_congr hw]
  iapply (wp_dmaBatch EC 𝒱 c bd (D := fun i : Fin 4 => deliv c src wins q fs fa (nth κ i)) () N hN (Finset.Subset.refl _) hlt (Nat.zero_le _) hD) $$ [Hd Hs Hme]
  · isplitl [Hs]; · iexact Hs
    isplitl [Hd]; · iexact Hd
    unfold batch
    iexact Hme
  iintro Hme
  iapply Hk
  isplitl [Hpend]; · iexact Hpend
  iapply Hback
  unfold batch
  rw [hc]
  iexact Hme

/-- Every transfer issued and no wait done. -/
theorem fan_full : iprop(fan EC c src wins cell N q fs fd fa 32 ∗ ∃ W, owes c 0 W) ⊢ (fanDrain EC c src wins cell N q fs fa 0 : sProp 𝕄) := by
  have hb : (fun k : Fin 8 => batch EC c src wins cell N q fs fa k (cnt 32 k) 0)
      = fun k : Fin 8 => batch EC c src wins cell N q fs fa k 4 (cnt 0 k * N) := by
    funext k
    rw [show cnt 32 k = 4 by unfold cnt; have := k.isLt; omega, show cnt 0 k = 0 by unfold cnt; omega, Nat.zero_mul]
  unfold fan fanDrain
  rw [hb]
  iintro ⟨⟨-, Hb⟩, HW⟩
  isplitl [Hb]; · iexact Hb
  iexact HW

/-- WAIT number `w`: one more transfer's credit consumed on its cell. -/
theorem fan_wait (w : ℕ) (hw : w < 32) {sm : DmaSem sig} (hs : sm = cell ⟨w % 8, by omega⟩)
    {spw spw' : Space} {sw se : Shape} {ew ee : EltTy}
    {srcw : Memref sig c.2.kind spw sw ew} {κw : Kind} {dstw : Memref sig κw spw' se ee} {hsrc : srcw.view.WordExact} {hdst : dstw.view.WordExact}
    {k : PUnit → Prog (TpuEff nD τ sig Val Λ c.2) α}
    (hN : dstw.view.dmaCredit = N) :
    fanDrain EC c src wins cell N q fs fa w
      ⊢ iprop((fanDrain EC c src wins cell N q fs fa (w + 1) -∗ wp frame (wpE defs 𝒱 c bd) Set.univ (k ⟨⟩) Q)
          -∗ wp frame (wpE defs 𝒱 c bd) Set.univ (.op (.waitDma2 sm srcw dstw hsrc hdst) k) Q) := by
  subst hs
  set κ : Fin 8 := ⟨w % 8, by omega⟩ with hκ
  have hupd := bigSep_univ_update (M := 𝕄) (Φ := fun k : Fin 8 => batch EC c src wins cell N q fs fa k 4 (cnt w k * N))
    (Ψ := fun k : Fin 8 => batch EC c src wins cell N q fs fa k 4 (cnt (w + 1) k * N)) κ (fun j hj => by
      have hne : ¬ j.val = w % 8 := fun h => hj (Fin.ext h)
      simp only [cnt_succ w hw, if_neg hne])
  have hc : cnt (w + 1) κ * N = cnt w κ * N + 1 * N := by rw [cnt_succ w hw, if_pos rfl, Nat.add_mul]
  have hle : cnt w κ * N + 1 * N ≤ N * 4 := by
    rw [← hc, Nat.mul_comm]
    exact Nat.mul_le_mul_left N (by unfold cnt; simp only [hκ]; omega)
  unfold fanDrain
  iintro ⟨Hbat, %W, HW⟩ Hk
  ihave H := hupd $$ Hbat
  icases H with ⟨Hme, Hback⟩
  unfold batch
  iapply (wp_waitBatchMul EC 𝒱 c bd () (N := N) 1 (by rw [hN, Nat.one_mul]) hle) $$ [Hme HW]
  · isplitl [Hme]; · iexact Hme
    iexact HW
  iintro ⟨Hme, HW⟩
  iapply Hk
  isplitr [HW]
  · iapply Hback
    rw [hc]
    iexact Hme
  · iexists _; iexact HW

/-- The transfers of the fan, cell by cell. -/
def nthEquiv : Fin 8 × Fin 4 ≃ Fin 32 where
  toFun p := nth p.1 p.2
  invFun t := (⟨t.val % 8, by omega⟩, ⟨t.val / 8, by omega⟩)
  left_inv p := by
    rcases p with ⟨k, i⟩
    refine Prod.ext (Fin.ext ?_) (Fin.ext ?_) <;> simp only [nth] <;> omega
  right_inv t := by
    refine Fin.ext ?_; simp only [nth]; omega

/-- END: with every wait done the fan gives every window back at its delivered contents, every read share, and the eight
    cells' counters at zero. -/
theorem fan_finish (hN : 0 < N) :
    fanDrain EC c src wins cell N q fs fa 32
      ⊢ (|={Set.univ}=> iprop((bigSep Finset.univ (deliv c src wins q fs fa))
          ∗ (bigSep Finset.univ fun k : Fin 8 => semVal ((c, .dma (cell k)) : GSem nD τ sig) 0) ∗ ∃ W, owes c 0 W) : sProp 𝕄) := by
  have coll : (bigSep Finset.univ fun k : Fin 8 => batch EC c src wins cell N q fs fa k 4 (cnt 32 k * N))
      ⊢ (|={Set.univ}=> bigSep Finset.univ fun k : Fin 8 =>
          iprop((bigSep Finset.univ fun i : Fin 4 => deliv c src wins q fs fa (nth k i)) ∗ semVal ((c, .dma (cell k)) : GSem nD τ sig) 0) : sProp 𝕄) := by
    refine (bigSep_mono fun k _ => ?_).trans (bigSep_fupd _ _)
    have h4 : cnt 32 k * N = N * 4 := by
      rw [show cnt 32 k = 4 by unfold cnt; have := k.isLt; omega, Nat.mul_comm]
    rw [h4]
    exact batch_collect' EC c hN
  have reix : (bigSep Finset.univ (deliv c src wins q fs fa) : sProp 𝕄)
      = bigSep Finset.univ fun k : Fin 8 => bigSep Finset.univ fun i : Fin 4 => deliv c src wins q fs fa (nth k i) := by
    rw [bigSep_univ_equiv nthEquiv, bigSep_univ_prod]; rfl
  rw [reix]
  unfold fanDrain
  iintro ⟨Hb, HW⟩
  imod coll $$ Hb with Hb
  imodintro
  ihave Hb' := (Entails.of_eq (bigSep_sep' Finset.univ (fun k : Fin 8 => bigSep Finset.univ fun i : Fin 4 => deliv c src wins q fs fa (nth k i))
    (fun k : Fin 8 => semVal ((c, .dma (cell k)) : GSem nD τ sig) 0))) $$ Hb
  icases Hb' with ⟨Hd, Hs⟩
  isplitl [Hd]; · iexact Hd
  isplitl [Hs]; · iexact Hs
  iexact HW

/-! ## The windows: the 32 leading rows of a rank-4 array -/

/-- The array's shape, and one leading row's. -/
abbrev Big : Shape := ⟨4, ![32, 72, 72, 256]⟩
/-- The shape of one row. -/
abbrev One : Shape := ⟨4, ![1, 72, 72, 256]⟩

/-- Each row lies inside the array. -/
theorem row_inb (t : Fin 32) : ∀ a, (![t.val, 0, 0, 0] : Fin 4 → ℕ) a + One.size a ≤ Big.size a := by
  intro a
  have := t.isLt
  fin_cases a
  · show t.val + 1 ≤ 32; omega
  all_goals exact Nat.le_refl _

/-- Leading row `t`, as a rectangle; -/
abbrev rowRect (t : Fin 32) : Rect Big := Rect.unit (s := Big) ![t.val, 0, 0, 0] One.size (row_inb t)

/-- as a window of an array. -/
abbrev row {κ : Kind} {sp : Space} {e : EltTy} (M : Memref sig κ sp Big e) (t : Fin 32) : Memref sig κ sp One e :=
  M.slice (rowRect t) (fun _ => rfl)

/-- Two rows share no element. -/
theorem row_disjoint (t t' : Fin 32) (h : t ≠ t') : Disjoint (rowRect t).set (rowRect t').set :=
  lead_disjoint (s := Big) (0 : Fin 4) 1 (fun b : Fin 32 => ![b.val, 0, 0, 0]) One.size row_inb
    (fun b => (Nat.one_mul _).symm) rfl t t' h

/-- The rows make up the whole array. -/
theorem row_cover : Finset.univ.biUnion (fun t : Fin 32 => (rowRect t).set) = Finset.univ :=
  lead_cover (s := Big) (0 : Fin 4) 1 (fun b : Fin 32 => ![b.val, 0, 0, 0]) One.size row_inb
    (fun b => (Nat.one_mul _).symm) (fun b a ha => by fin_cases a <;> first | exact absurd rfl ha | rfl) rfl
    (fun a ha => by fin_cases a <;> first | exact absurd rfl ha | rfl) rfl

/-- An array held whole is its 32 leading rows, held one by one at the same contents. -/
theorem rows_split {spd : Space} {ed : EltTy} (M : Memref sig c.2.kind spd Big ed) (q : PosShare TreeShare) (f : Buf Val (M.view.loc c)) :
    (M.view.loc c ↦[M.view.set]{q} f : sProp 𝕄)
      = bigSep Finset.univ fun t : Fin 32 => M.view.loc c ↦[(row M t).view.set]{q} f := by
  have hset (t : Fin 32) : (row M t).view.set = (rowRect t).set.map M.view.emb := View.set_slice _ _
  have hd (t t' : Fin 32) (h : t ≠ t') : Disjoint (row M t).view.set (row M t').view.set := by
    rw [hset, hset]
    exact (Finset.disjoint_map _).mpr (row_disjoint t t' h)
  have hm (i : Idx (M.view.loc c)) : i ∈ M.view.set ↔ ∃ t, i ∈ (row M t).view.set := by
    have hM : M.view.set = Finset.univ.map M.view.emb := rfl
    simp only [hset, hM, Finset.mem_map, Finset.mem_univ, _root_.true_and]
    constructor
    · rintro ⟨x, rfl⟩
      have hx : x ∈ Finset.univ.biUnion (fun t : Fin 32 => (rowRect t).set) := row_cover ▸ Finset.mem_univ x
      obtain ⟨t, -, ht⟩ := Finset.mem_biUnion.mp hx
      exact ⟨t, x, ht, rfl⟩
    · rintro ⟨t, x, -, rfl⟩; exact ⟨x, rfl⟩
  generalize hI : (fun t : Fin 32 => (row M t).view.set) = I at *
  have hIt (t : Fin 32) : (row M t).view.set = I t := congrFun hI t
  simp only [hIt] at *
  exact pointsTo_sub_blocks (ℓ := M.view.loc c) I hd M.view.set (by
    ext i; rw [hm]; simp only [Finset.mem_biUnion, Finset.mem_univ, _root_.true_and]) f

/-- Row `t` after the payload `w` is written through it holds, on its elements, any contents `G` of the array whose row `t` reads `w`. -/
theorem row_written {κ : Kind} {spd : Space} {ed : EltTy} (M : Memref sig κ spd Big ed) (t : Fin 32) (f G : M.view.ty.Contents Val) (w : One.Idx → Val ed)
    (hG : ∀ y, M.view.read Val G ((rowRect t).emb y) = w y) :
    ∀ i ∈ (row M t).view.set, (row M t).view.write Val f w Finset.univ i = G i := by
  intro i hi
  obtain ⟨y, -, rfl⟩ := Finset.mem_map.mp hi
  rw [View.write_emb_of_mem _ _ (Finset.mem_univ _)]
  have h := hG y
  rw [← h, View.read_apply]
  exact cast_cast _ _ _

/-- The source whole at contents `fs`, an array `M` whole at contents `fd` and the eight cells at rest: the fan with nothing issued that
    copies the source into every leading row of `M`, beside what the 32 read tokens leave of the source. -/
theorem fan_open {spd : Space} {ed : EltTy} (EC : UEmb Counters (MT nD τ sig Unit Val ℕ U ℕ)) [EC.LandsIn (upEmb : UEmb _ (MT nD τ sig Unit Val ℕ U ℕ))]
    {sps : Space} (src : Memref sig c.2.kind sps One ed) (M : Memref sig c.2.kind spd Big ed) (cell : Fin 8 → DmaSem sig) (N : ℕ)
    (q : PosShare TreeShare) (fs : Buf Val (src.view.loc c)) (fd fa : Buf Val (M.view.loc c)) :
    iprop((src.view.loc c ↦[src.view.set]{q} fs) ∗ (M.view.loc c ↦[M.view.set]{fullShare} fd)
        ∗ bigSep Finset.univ (fun k : Fin 8 => semVal ((c, .dma (cell k)) : GSem nD τ sig) 0))
      ⊢ (|={Set.univ}=> iprop(fan EC c src (row M) cell N q fs (fun _ => fd) (fun _ => fa) 0
          ∗ src.view.loc c ↦[src.view.set]{Transfers.shareDrop q 32} fs) : sProp 𝕄) := by
  iintro ⟨HP, HD, Hsm⟩
  ihave HP := (Transfers.pointsTo_toks_split q 32) $$ HP
  icases HP with ⟨HP, Htok⟩
  ihave HD := (Entails.of_eq (rows_split c M fullShare fd)) $$ HD
  ihave Hw := (show iprop((bigSep Finset.univ fun t : Fin 32 => M.view.loc c ↦[(row M t).view.set]{fullShare} fd)
      ∗ bigSep Finset.univ fun t : Fin 32 => src.view.loc c ↦[src.view.set]{Transfers.shareTok q 32 t} fs)
    ⊢ (bigSep Finset.univ (before c src (row M) q fs (fun _ => fd)) : sProp 𝕄) from
      Entails.of_eq (bigSep_sep' Finset.univ _ _).symm) $$ [HD Htok]
  · isplitl [HD] <;> iassumption
  imod (fan_start EC c src (row M) cell N q fs (fun _ => fd) (fun _ => fa)) $$ [Hw Hsm] with Hfan
  · isplitl [Hw]; · iexact Hw
    iexact Hsm
  imodintro
  isplitl [Hfan]; · iexact Hfan
  iexact HP

/-- The fan with everything waited for, beside that rest of the source: the source whole again, `M` whole at contents `fa`, the cells at rest. -/
theorem fan_close {spd : Space} {ed : EltTy} (EC : UEmb Counters (MT nD τ sig Unit Val ℕ U ℕ)) [EC.LandsIn (upEmb : UEmb _ (MT nD τ sig Unit Val ℕ U ℕ))]
    {sps : Space} (src : Memref sig c.2.kind sps One ed) (M : Memref sig c.2.kind spd Big ed) (cell : Fin 8 → DmaSem sig) (N : ℕ)
    (q : PosShare TreeShare) (fs : Buf Val (src.view.loc c)) (fa : Buf Val (M.view.loc c)) (hN : 0 < N) :
    iprop(fanDrain EC c src (row M) cell N q fs (fun _ => fa) 32 ∗ src.view.loc c ↦[src.view.set]{Transfers.shareDrop q 32} fs)
      ⊢ (|={Set.univ}=> iprop((src.view.loc c ↦[src.view.set]{q} fs) ∗ (M.view.loc c ↦[M.view.set]{fullShare} fa)
        ∗ (bigSep Finset.univ fun k : Fin 8 => semVal ((c, .dma (cell k)) : GSem nD τ sig) 0) ∗ ∃ W, owes c 0 W) : sProp 𝕄) := by
  iintro ⟨Hd, HP⟩
  imod (fan_finish EC c src (row M) cell N q fs (fun _ => fa) hN) $$ Hd with ⟨Hw, Hsm, HW⟩
  ihave Hw := (show (bigSep Finset.univ (deliv c src (row M) q fs (fun _ => fa)) : sProp 𝕄)
    ⊢ iprop((bigSep Finset.univ fun t : Fin 32 => M.view.loc c ↦[(row M t).view.set]{fullShare} fa)
      ∗ bigSep Finset.univ fun t : Fin 32 => src.view.loc c ↦[src.view.set]{Transfers.shareTok q 32 t} fs) from
      Entails.of_eq (bigSep_sep' Finset.univ _ _)) $$ Hw
  icases Hw with ⟨HD, Htok⟩
  ihave HP := (Transfers.pointsTo_toks_join q 32) $$ [HP Htok]
  · isplitl [HP] <;> iassumption
  ihave HD := (Entails.of_eq (rows_split c M fullShare fa).symm) $$ HD
  imodintro
  isplitl [HP]; · iexact HP
  isplitl [HD]; · iexact HD
  isplitl [Hsm]; · iexact Hsm
  iexact HW

/-- A buffer stored over whole holds the payload. -/
theorem stored_whole {κ : Kind} (b : Ref sig κ) (f : (Memref.whole b).view.ty.Contents Val) {off : Fin b.ty.shape.rank → ℕ}
    (inb : ∀ a, off a + b.ty.shape.size a ≤ b.ty.shape.size a) (w : (Rect.unit off b.ty.shape.size inb).shape.Idx → Val b.ty.elt) :
    (Memref.whole b).view.writes Val f [⟨Rect.unit off b.ty.shape.size inb, w⟩] = w :=
  View.read_writes_full (Memref.whole b).view f inb w []

/-- A buffer overwritten whole by a copy holds the payload. -/
theorem written_whole {κ : Kind} (b : Ref sig κ) (f : (Memref.whole b).view.ty.Contents Val) (w : b.ty.shape.Idx → Val b.ty.elt) :
    (Memref.whole b).view.writes Val f [⟨Rect.whole b.ty.shape, w⟩] = w :=
  View.read_writes_full (Memref.whole b).view f (off := fun _ => 0) (fun a => by rw [Nat.zero_add]) w []

end Cert.Fan
-- ==== Proof.DenseIdeal.lean ====
module

public import proofs.«01_k».proof.Proof.Gen.KernelIdeal.Skeleton
public import proofs.«01_k».proof.Proof.Gen.KernelIdeal.Frame
public import proofs.«01_k».proof.Proof.Fan
public import Idealize.ShloMosaic.Lib.Pipeline.FrameSuffixV
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The scratch that holds the pattern. -/
abbrev patM : Memref sig .tc .vmem S1x72x72x256 .f32 := Memref.whole cc0_scratch0
/-- The scratch that holds the sparse embedding. -/
abbrev spM : Memref sig .tc .vmem S32x65x256 .f32 := Memref.whole cc0_scratch1
/-- The sparse result. -/
abbrev outM : Memref sig .tc .hbm S32x65x256 .f32 := Memref.whole main_v10_0
/-- The dense result, before the host's transpose. -/
abbrev denM : Memref sig .tc .hbm S32x72x72x256 .f32 := Memref.whole main_v10_1

/-- What the pattern scratch holds once the no-mask row is broadcast into it; and the dense result, each of whose 32 leading
    rows is that pattern. -/
def patC (x6 : Vec F S1x256 .f32) : Vec F S1x72x72x256 .f32 := k0_pay1 x6
/-- The dense result: the pattern in each of its 32 rows. -/
def denC (x6 : Vec F S1x256 .f32) : Vec F S32x72x72x256 .f32 := fun i =>
  patC x6 (fun a => ⟨if a.val = 0 then 0 else (i a).val, by
    have h := (i a).isLt
    revert h; fin_cases a <;> intro h <;> first | exact Nat.zero_lt_one | exact h⟩)

/-- Where the copies' counters live. -/
abbrev EC : UEmb Counters 𝕄 := countersEmb (U := Pipeline.UD sig nD τ)
/-- The eight cells the dense copies complete on. -/
abbrev dcell (k : Fin 8) : DmaSem sig := ⟨7 + k.val, by have := k.isLt; show 7 + k.val < 16; omega⟩
/-- The credit of one row's copy. -/
abbrev dN : ℕ := (Fan.row denM 0).view.dmaCredit

/-- The fan of the dense copies with `g` issued; and with `w` waited for. -/
abbrev dfan (c : Dev nD) (x6 : Vec F S1x256 .f32) (fd : Buf (Elt F) ((c : Thread nD τ).loc main_v10_1)) (g : ℕ) : sProp 𝕄 :=
  Fan.fan EC (c : Thread nD τ) patM (Fan.row denM) dcell dN fullShare (patC x6) (fun _ => fd) (fun _ => denC x6) g
/-- What the wait for copy `w` gives back. -/
abbrev ddrain (c : Dev nD) (x6 : Vec F S1x256 .f32) (w : ℕ) : sProp 𝕄 :=
  Fan.fanDrain EC (c : Thread nD τ) patM (Fan.row denM) dcell dN fullShare (patC x6) (fun _ => denC x6) w

/-- Each row of the dense result reads as the pattern. -/
theorem den_row (x6 : Vec F S1x256 .f32) (t : Fin 32) (y : Fan.One.Idx) : denM.view.read (Elt F) (denC x6) ((Fan.rowRect t).emb y) = patC x6 y := by
  show denC x6 ((Fan.rowRect t).emb y) = patC x6 y
  unfold denC
  refine congrArg (patC x6) (funext fun a => Fin.ext ?_)
  have h0 : (y 0).val = 0 := by have : (y 0).val < 1 := (y 0).isLt; omega
  fin_cases a
  · exact h0.symm
  all_goals (show 0 + 1 * _ = _; omega)

variable {α : Type} {Q : α → sProp (MT nD τ sig Unit (Elt F) ℕ (Pipeline.UD sig nD τ) ℕ)}

/-- Dense copy number `t` started. -/
theorem issue (c : Dev nD) (x6 : Vec F S1x256 .f32) (fd : Buf (Elt F) ((c : Thread nD τ).loc main_v10_1)) (t : ℕ) (ht : t < 32)
    {dst : Memref sig .tc .hbm S1x72x72x256 .f32} (hd : dst = Fan.row denM ⟨t, ht⟩) {sm : DmaSem sig} (hs : sm = dcell ⟨t % 8, by omega⟩)
    {hsrc : patM.view.WordExact} {hdst : dst.view.WordExact} {hsem : DmaTarget.Typed (nD := nD) (p := (Proc.tc : Proc τ)) .vmem (.dma sm) (.here dst)}
    {k : PUnit → Prog (TpuEff nD τ sig (Elt F) Λ₀ .tc) α} :
    dfan c x6 fd t
      ⊢ iprop((dfan c x6 fd (t + 1) -∗ wp frame (wpE (defs₀ (F := F)) Variants.none (c : Thread nD τ) none) Set.univ (k ⟨⟩) Q)
          -∗ wp frame (wpE (defs₀ (F := F)) Variants.none (c : Thread nD τ) none) Set.univ
            (.op (.enqueueDmaAs patM (.here dst) .same (.dma sm) hsrc hdst hsem) k) Q) :=
  Fan.fan_issue EC (c : Thread nD τ) patM (Fan.row denM) dcell dN fullShare (patC x6) (fun _ => fd) (fun _ => denC x6) Variants.none none t ht hd hs
    (by subst hd; rfl) (Fan.row_written denM ⟨t, ht⟩ fd (denC x6) (patC x6) (den_row x6 ⟨t, ht⟩))

/-- Dense copy number `w` waited for. -/
theorem await (c : Dev nD) (x6 : Vec F S1x256 .f32) (w : ℕ) (hw : w < 32) {sm : DmaSem sig} (hs : sm = dcell ⟨w % 8, by omega⟩)
    {dst : Memref sig .tc .hbm S1x72x72x256 .f32} (hd : dst = Fan.row denM ⟨w, hw⟩)
    {hsrc : patM.view.WordExact} {hdst : dst.view.WordExact}
    {k : PUnit → Prog (TpuEff nD τ sig (Elt F) Λ₀ .tc) α} :
    ddrain c x6 w
      ⊢ iprop((ddrain c x6 (w + 1) -∗ wp frame (wpE (defs₀ (F := F)) Variants.none (c : Thread nD τ) none) Set.univ (k ⟨⟩) Q)
          -∗ wp frame (wpE (defs₀ (F := F)) Variants.none (c : Thread nD τ) none) Set.univ
            (.op (.waitDma2 sm patM dst hsrc hdst) k) Q) :=
  Fan.fan_wait EC (c : Thread nD τ) patM (Fan.row denM) dcell dN fullShare (patC x6) (fun _ => denC x6) Variants.none none w hw hs
    (by subst hd; rfl)

/-- The pattern scratch stored over whole. -/
theorem pat_stored (fp : patM.view.ty.Contents (Elt F)) (w : Vec F S1x72x72x256 .f32) :
    patM.view.writes (Elt F) fp [⟨Rect.unit (s := S1x72x72x256) ![0, 0, 0, 0] S1x72x72x256.size inb_S1x72x72x256_S1x72x72x256_0_0_0_0, w⟩] = w :=
  Fan.stored_whole cc0_scratch0 fp (off := ![0, 0, 0, 0]) inb_S1x72x72x256_S1x72x72x256_0_0_0_0 w

/-- The no-mask row, loaded and broadcast. -/
theorem pat_loaded (arg6 : Memref sig .tc .vmem S1x256 .f32) (f6 : arg6.view.ty.Contents (Elt F)) (x6 : Vec F S1x256 .f32) (h : arg6.view.read (Elt F) f6 = x6) :
    k0_pay1 (arg6.view.readAt (Elt F) (Rect.unit (s := S1x256) ![0, 0] S1x256.size inb_S1x256_S1x256_0_0).toLoadRect f6) = patC x6 := by
  unfold patC
  rw [View.readAt_full arg6.view f6 (off := ![0, 0]) inb_S1x256_S1x256_0_0, h]

/-- Opening the fan of dense copies: the pattern, the dense array and the eight cells go in; -/
theorem dense_open (c : Dev nD) (x6 : Vec F S1x256 .f32) (fd : Buf (Elt F) ((c : Thread nD τ).loc main_v10_1)) :
    iprop((patM.view.loc (c : Thread nD τ) ↦[patM.view.set]{fullShare} patC x6) ∗ (denM.view.loc (c : Thread nD τ) ↦[denM.view.set]{fullShare} fd)
        ∗ bigSep Finset.univ (fun k : Fin 8 => semVal ((c : Thread nD τ), .dma (dcell k)) 0))
      ⊢ (|={Set.univ}=> iprop(dfan c x6 fd 0 ∗ patM.view.loc (c : Thread nD τ) ↦[patM.view.set]{Transfers.shareDrop fullShare 32} patC x6) : sProp 𝕄) :=
  Fan.fan_open (c : Thread nD τ) EC patM denM dcell dN fullShare (patC x6) fd (denC x6)

/-- closing it: they come back, the dense array holding the pattern in every row. -/
theorem dense_close (c : Dev nD) (x6 : Vec F S1x256 .f32) :
    iprop(ddrain c x6 32 ∗ patM.view.loc (c : Thread nD τ) ↦[patM.view.set]{Transfers.shareDrop fullShare 32} patC x6)
      ⊢ (|={Set.univ}=> iprop((patM.view.loc (c : Thread nD τ) ↦[patM.view.set]{fullShare} patC x6)
        ∗ (denM.view.loc (c : Thread nD τ) ↦[denM.view.set]{fullShare} denC x6)
        ∗ (bigSep Finset.univ fun k : Fin 8 => semVal ((c : Thread nD τ), .dma (dcell k)) 0) ∗ ∃ W, owes (c : Thread nD τ) 0 W) : sProp 𝕄) :=
  Fan.fan_close (c : Thread nD τ) EC patM denM dcell dN fullShare (patC x6) (denC x6) (by decide)

/-- What the sparse scratch holds at the end: the embeddings of every box, corner and padding point, of the seven inputs the body
    reads whole, the frequency matrix and the table row by row. -/
def spC (x0 x1 : Vec F S32x65x1 .f32) (x2 : Vec F S32x65x1 .i32) (x3 : Vec F S2x128 .f32) (x4 : Vec F S4x256 .f32) (x5 : Vec F S1x256 .f32) :
    Vec F S32x65x256 .f32 :=
  k0_pay12 (k0_pay2 x2)
    (k0_pay5 (k0_pay2 x2) (k0_pay3 x0 x1 (VecWindow.window x3 ![0, 0] S1x128.size inb_S2x128_S1x128_0_0) (VecWindow.window x3 ![1, 0] S1x128.size inb_S2x128_S1x128_1_0))
      k0_pay4 x5)
    (k0_pay7 (VecWindow.window x4 ![0, 0] S1x256.size inb_S4x256_S1x256_0_0)) (k0_pay8 (VecWindow.window x4 ![1, 0] S1x256.size inb_S4x256_S1x256_1_0))
    (k0_pay9 (k0_pay2 x2))
    (k0_pay10 (k0_pay2 x2) (VecWindow.window x4 ![2, 0] S1x256.size inb_S4x256_S1x256_2_0) (VecWindow.window x4 ![3, 0] S1x256.size inb_S4x256_S1x256_3_0))
    (k0_pay11 (k0_pay2 x2))

/-- The body's loads and pure steps compute it. -/
theorem sp_loaded (arg0 arg1 : Memref sig .tc .vmem S32x65x1 .f32) (arg2 : Memref sig .tc .vmem S32x65x1 .i32) (arg3 : Memref sig .tc .vmem S2x128 .f32)
    (arg4 : Memref sig .tc .vmem S4x256 .f32) (arg5 : Memref sig .tc .vmem S1x256 .f32)
    (f0 : arg0.view.ty.Contents (Elt F)) (f1 : arg1.view.ty.Contents (Elt F)) (f2 : arg2.view.ty.Contents (Elt F))
    (f3 : arg3.view.ty.Contents (Elt F)) (f4 : arg4.view.ty.Contents (Elt F)) (f5 : arg5.view.ty.Contents (Elt F))
    (x0 x1 : Vec F S32x65x1 .f32) (x2 : Vec F S32x65x1 .i32) (x3 : Vec F S2x128 .f32) (x4 : Vec F S4x256 .f32) (x5 : Vec F S1x256 .f32)
    (h0 : arg0.view.read (Elt F) f0 = x0) (h1 : arg1.view.read (Elt F) f1 = x1) (h2 : arg2.view.read (Elt F) f2 = x2)
    (h3 : arg3.view.read (Elt F) f3 = x3) (h4 : arg4.view.read (Elt F) f4 = x4) (h5 : arg5.view.read (Elt F) f5 = x5) :
    k0_pay12 (k0_pay2 (arg2.view.readAt (Elt F) (Rect.unit (s := S32x65x1) ![0, 0, 0] S32x65x1.size inb_S32x65x1_S32x65x1_0_0_0).toLoadRect f2))
      (k0_pay5 (k0_pay2 (arg2.view.readAt (Elt F) (Rect.unit (s := S32x65x1) ![0, 0, 0] S32x65x1.size inb_S32x65x1_S32x65x1_0_0_0).toLoadRect f2))
        (k0_pay3 (arg0.view.readAt (Elt F) (Rect.unit (s := S32x65x1) ![0, 0, 0] S32x65x1.size inb_S32x65x1_S32x65x1_0_0_0).toLoadRect f0)
          (arg1.view.readAt (Elt F) (Rect.unit (s := S32x65x1) ![0, 0, 0] S32x65x1.size inb_S32x65x1_S32x65x1_0_0_0).toLoadRect f1)
          (arg3.view.readAt (Elt F) (Rect.unit (s := S2x128) ![0, 0] S1x128.size inb_S2x128_S1x128_0_0).toLoadRect f3)
          (arg3.view.readAt (Elt F) (Rect.unit (s := S2x128) ![1, 0] S1x128.size inb_S2x128_S1x128_1_0).toLoadRect f3))
        k0_pay4 (arg5.view.readAt (Elt F) (Rect.unit (s := S1x256) ![0, 0] S1x256.size inb_S1x256_S1x256_0_0).toLoadRect f5))
      (k0_pay7 (arg4.view.readAt (Elt F) (Rect.unit (s := S4x256) ![0, 0] S1x256.size inb_S4x256_S1x256_0_0).toLoadRect f4))
      (k0_pay8 (arg4.view.readAt (Elt F) (Rect.unit (s := S4x256) ![1, 0] S1x256.size inb_S4x256_S1x256_1_0).toLoadRect f4))
      (k0_pay9 (k0_pay2 (arg2.view.readAt (Elt F) (Rect.unit (s := S32x65x1) ![0, 0, 0] S32x65x1.size inb_S32x65x1_S32x65x1_0_0_0).toLoadRect f2)))
      (k0_pay10 (k0_pay2 (arg2.view.readAt (Elt F) (Rect.unit (s := S32x65x1) ![0, 0, 0] S32x65x1.size inb_S32x65x1_S32x65x1_0_0_0).toLoadRect f2))
        (arg4.view.readAt (Elt F) (Rect.unit (s := S4x256) ![2, 0] S1x256.size inb_S4x256_S1x256_2_0).toLoadRect f4)
        (arg4.view.readAt (Elt F) (Rect.unit (s := S4x256) ![3, 0] S1x256.size inb_S4x256_S1x256_3_0).toLoadRect f4))
      (k0_pay11 (k0_pay2 (arg2.view.readAt (Elt F) (Rect.unit (s := S32x65x1) ![0, 0, 0] S32x65x1.size inb_S32x65x1_S32x65x1_0_0_0).toLoadRect f2)))
      = spC x0 x1 x2 x3 x4 x5 := by
  unfold spC
  rw [View.readAt_full arg0.view f0 (off := ![0, 0, 0]) inb_S32x65x1_S32x65x1_0_0_0, View.readAt_full arg1.view f1 (off := ![0, 0, 0]) inb_S32x65x1_S32x65x1_0_0_0,
    View.readAt_full arg2.view f2 (off := ![0, 0, 0]) inb_S32x65x1_S32x65x1_0_0_0, View.readAt_full arg5.view f5 (off := ![0, 0]) inb_S1x256_S1x256_0_0]
  subst h0 h1 h2 h3 h4 h5
  rfl

/-- The sparse scratch stored over whole; -/
theorem sp_stored (fs : spM.view.ty.Contents (Elt F)) (w : Vec F S32x65x256 .f32) :
    spM.view.writes (Elt F) fs [⟨Rect.unit (s := S32x65x256) ![0, 0, 0] S32x65x256.size inb_S32x65x256_S32x65x256_0_0_0, w⟩] = w :=
  Fan.stored_whole cc0_scratch1 fs (off := ![0, 0, 0]) inb_S32x65x256_S32x65x256_0_0_0 w

/-- and the sparse result written whole. -/
theorem out_stored (fo : outM.view.ty.Contents (Elt F)) (w : Vec F S32x65x256 .f32) :
    outM.view.writes (Elt F) fo [⟨Rect.whole S32x65x256, ReadAs.same.apply (spM.view.read (Elt F) w)⟩] = w :=
  Fan.written_whole main_v10_0 fo w

end Cert.KernelIdeal.Hand
-- ==== Proof.BodyIdeal.lean ====
module

public import proofs.«01_k».proof.Proof.Gen.KernelIdeal.Skeleton
public import proofs.«01_k».proof.Proof.Gen.KernelIdeal.Frame
public import proofs.«01_k».proof.Proof.DenseIdeal
public import Idealize.ShloMosaic.Lib.Pipeline.FrameSuffixV
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The body from its blocks, its scratch and its cells at zero: it ends with both results written and the cells at zero again. -/
theorem kernelRun (c : Dev nD)
    (arg0 : Memref sig .tc .vmem S32x65x1 .f32) (harg0 : arg0.IsWhole) (arg1 : Memref sig .tc .vmem S32x65x1 .f32) (harg1 : arg1.IsWhole)
    (arg2 : Memref sig .tc .vmem S32x65x1 .i32) (harg2 : arg2.IsWhole) (arg3 : Memref sig .tc .vmem S2x128 .f32) (harg3 : arg3.IsWhole)
    (arg4 : Memref sig .tc .vmem S4x256 .f32) (harg4 : arg4.IsWhole) (arg5 : Memref sig .tc .vmem S1x256 .f32) (harg5 : arg5.IsWhole)
    (arg6 : Memref sig .tc .vmem S1x256 .f32) (harg6 : arg6.IsWhole)
    (x0 x1 : Vec F S32x65x1 .f32) (x2 : Vec F S32x65x1 .i32) (x3 : Vec F S2x128 .f32) (x4 : Vec F S4x256 .f32) (x5 x6 : Vec F S1x256 .f32)
    (fd : Buf (Elt F) ((c : Thread nD τ).loc main_v10_1)) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6
        ∗ (∃ f, patM.view.loc (c : Thread nD τ) ↦[patM.view.set]{fullShare} f) ∗ (bigSep Finset.univ fun k : Fin 8 => semVal ((c : Thread nD τ), .dma (dcell k)) 0)
        ∗ (denM.view.loc (c : Thread nD τ) ↦[denM.view.set]{fullShare} fd)
        ∗ (∃ f, spM.view.loc (c : Thread nD τ) ↦[spM.view.set]{fullShare} f)
        ∗ semVal ((c : Thread nD τ), SemLoc.dma 15) 0
        ∗ (∃ f, outM.view.loc (c : Thread nD τ) ↦[outM.view.set]{fullShare} f)
        ∗ (∃ W, owes (c : Thread nD τ) 0 W)
        ∗ ((owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6
        ∗ (∃ f, patM.view.loc (c : Thread nD τ) ↦[patM.view.set]{fullShare} f) ∗ (bigSep Finset.univ fun k : Fin 8 => semVal ((c : Thread nD τ), .dma (dcell k)) 0)
        ∗ (denM.view.loc (c : Thread nD τ) ↦[denM.view.set]{fullShare} denC x6)
        ∗ (∃ f, spM.view.loc (c : Thread nD τ) ↦[spM.view.set]{fullShare} f)
        ∗ semVal ((c : Thread nD τ), SemLoc.dma 15) 0
        ∗ (outM.view.loc (c : Thread nD τ) ↦[outM.view.set]{fullShare} spC x0 x1 x2 x3 x4 x5)
        ∗ (∃ W, owes (c : Thread nD τ) 0 W)) -∗ K ⟨⟩))
      ⊢ wp frame (wpE (defs₀ (F := F)) Variants.none c none) Set.univ
          (cc0__body arg0 harg0 arg1 harg1 arg2 harg2 arg3 harg3 arg4 harg4 arg5 harg5 arg6 harg6
            outM (Memref.isWhole_whole _) denM (Memref.isWhole_whole _) patM (Memref.isWhole_whole _) spM (Memref.isWhole_whole _) cc0_scratch2) K := by
  rw [cc0__body_eq_skeleton]
  unfold cc0__body_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, HP⟩, Hsm, HD, ⟨%fs, HS⟩, Hq, ⟨%fo, HO⟩, ⟨%W, HW⟩, HK⟩
  sl_exec
  rw [pat_stored, pat_loaded arg6 f6 x6 hf6]
  imod (dense_open c x6 fd) $$ [HP HD Hsm] with ⟨Hfan, HP⟩
  · isplitl [HP]; · iexact HP
    isplitl [HD]; · iexact HD
    iexact Hsm
  iterate 32
    iapply (issue c x6 fd _ (by decide) (by rfl) (by rfl)) $$ Hfan
    iintro Hfan
    try sl_exec
  ihave Hfan := (Fan.fan_full EC (c : Thread nD τ) patM (Fan.row denM) dcell dN fullShare (patC x6) (fun _ => fd) (fun _ => denC x6)) $$ [Hfan HW]
  · isplitl [Hfan]; · iexact Hfan
    iexists W; iexact HW
  iterate 32
    iapply (await c x6 _ (by decide) (by rfl) (by rfl)) $$ Hfan
    iintro Hfan
    try sl_exec
  imod (dense_close c x6) $$ [Hfan HP] with ⟨HP, HD, Hsm, ⟨%W', HW⟩⟩
  · isplitl [Hfan]; · iexact Hfan
    iexact HP
  sl_exec
  unfold kernelRun.sl.dma12 kernelRun.sl.HS_1 kernelRun.sl.r_7 kernelRun.sl.r_6 kernelRun.sl.r_5 kernelRun.sl.r_4 kernelRun.sl.r_3 kernelRun.sl.r_2 kernelRun.sl.r_1 kernelRun.sl.r
  rw [sp_loaded arg0 arg1 arg2 arg3 arg4 arg5 f0 f1 f2 f3 f4 f5 x0 x1 x2 x3 x4 x5 hf0 hf1 hf2 hf3 hf4 hf5, sp_stored, out_stored]
  sl_step
  iapply HK
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  isplitl [H6]; · iexists f6; isplitr; · ipureintro; exact hf6
                  iexact H6
  isplitl [HP]; · iexists (patC x6); iexact HP
  isplitl [Hsm]; · iexact Hsm
  isplitl [HD]; · iexact HD
  isplitl [HS]; · iexists _; iexact HS
  isplitl [Hq]; · iexact Hq
  isplitl [HO]; · iexact HO
  iexists _; iexact HW

end Cert.KernelIdeal.Hand
-- ==== Proof.LaunchIdeal.lean ====
module

public import proofs.«01_k».proof.Proof.BodyIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the launch holds beside the staged windows -/

/-- The kernel's own nine semaphore cells: eight for the pattern's copies, the ninth for the sparse copy. -/
def osem0 : Fin 9 → SemLoc sig := fun k => .dma ⟨7 + k.val, by have := k.isLt; show 7 + k.val < 16; omega⟩

/-- The nine cells are the kernel's own and distinct. -/
theorem ownSemFacts0 : Pipeline.OwnSemFacts spec0 osem0 := by decide

/-- The two results the body writes by its own copies. -/
abbrev R0 : Finset (Ref sig .tc) := {main_v10_0, main_v10_1}

/-- The two results are arrays that no window stages. -/
theorem R0_sub : R0 ⊆ Pipeline.restRefs sig (cfgs (0 : Fin 1)).spec \ (∅ : Finset (Ref sig .tc)) := by decide

/-- What the body leaves in the sparse result. -/
def spV (c : Dev nD) : Vec F S32x65x256 .f32 :=
  spC (iblk m c 0 t0_0) (iblk m c 1 t0_0) (iblk m c 2 t0_0) (iblk m c 3 t0_0) (iblk m c 4 t0_0) (iblk m c 5 t0_0)

/-- What the body leaves in the dense result. -/
def dnV (c : Dev nD) : Vec F S32x72x72x256 .f32 := denC (iblk m c 6 t0_0)

/-- The buffers after the body: as the region finds them, but for the two results. -/
def G (c : Dev nD) (b : Ref sig .tc) : Buf (Elt F) ((c : Thread nD τ).loc b) :=
  Function.update (Function.update (V m c) main_v10_0 (spV m c)) main_v10_1 (dnV m c) b

/-- The sparse result after the body. -/
theorem G_sp (c : Dev nD) : G m c main_v10_0 = spV m c := by
  unfold G; rw [Function.update_of_ne (by decide), Function.update_self]

/-- The dense result after the body. -/
theorem G_dn (c : Dev nD) : G m c main_v10_1 = dnV m c := by
  unfold G; rw [Function.update_self]

set_option maxHeartbeats 800000 in
/-- The program around its one region: the host lines before it, the region, the transpose after it. -/
theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The nine cells, each at zero. -/
theorem cells_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (dcell 0)) 0 ∗ semVal ((c : Thread nD τ), .dma (dcell 1)) 0
        ∗ semVal ((c : Thread nD τ), .dma (dcell 2)) 0 ∗ semVal ((c : Thread nD τ), .dma (dcell 3)) 0
        ∗ semVal ((c : Thread nD τ), .dma (dcell 4)) 0 ∗ semVal ((c : Thread nD τ), .dma (dcell 5)) 0
        ∗ semVal ((c : Thread nD τ), .dma (dcell 6)) 0 ∗ semVal ((c : Thread nD τ), .dma (dcell 7)) 0
        ∗ semVal ((c : Thread nD τ), SemLoc.dma 15) 0) :=
  Pipeline.ownSems0_eq_of_list c osem0 [(0 : Fin 9), (1 : Fin 9), (2 : Fin 9), (3 : Fin 9), (4 : Fin 9), (5 : Fin 9), (6 : Fin 9), (7 : Fin 9), (8 : Fin 9)] (by decide) (by decide)

/-- The pattern's eight cells, each at zero. -/
theorem eight_eq (c : Dev nD) :
    (bigSep Finset.univ fun k : Fin 8 => (semVal ((c : Thread nD τ), .dma (dcell k)) 0 : sProp 𝕄))
      = iprop(semVal ((c : Thread nD τ), .dma (dcell 0)) 0 ∗ semVal ((c : Thread nD τ), .dma (dcell 1)) 0
        ∗ semVal ((c : Thread nD τ), .dma (dcell 2)) 0 ∗ semVal ((c : Thread nD τ), .dma (dcell 3)) 0
        ∗ semVal ((c : Thread nD τ), .dma (dcell 4)) 0 ∗ semVal ((c : Thread nD τ), .dma (dcell 5)) 0
        ∗ semVal ((c : Thread nD τ), .dma (dcell 6)) 0 ∗ semVal ((c : Thread nD τ), .dma (dcell 7)) 0) :=
  bigSep_univ_eq_bigSepL [(0 : Fin 8), (1 : Fin 8), (2 : Fin 8), (3 : Fin 8), (4 : Fin 8), (5 : Fin 8), (6 : Fin 8), (7 : Fin 8)] (by decide) (by decide) _

/-- The launch's holding, one piece at a time: scratch, cells, the two results. -/
theorem hold_eq (c : Dev nD) (W : (c : Dev nD) → (b : Ref sig .tc) → Buf (Elt F) ((c.tc : Thread nD τ).loc b)) :
    (Pipeline.ΦDRV osem0 spec0 ∅ R0 (V m) W c : sProp 𝕄)
      = iprop(((∃ f, patM.view.loc (c : Thread nD τ) ↦[patM.view.set]{fullShare} f) ∗ (∃ f, spM.view.loc (c : Thread nD τ) ↦[spM.view.set]{fullShare} f))
        ∗ (semVal ((c : Thread nD τ), .dma (dcell 0)) 0 ∗ semVal ((c : Thread nD τ), .dma (dcell 1)) 0
        ∗ semVal ((c : Thread nD τ), .dma (dcell 2)) 0 ∗ semVal ((c : Thread nD τ), .dma (dcell 3)) 0
        ∗ semVal ((c : Thread nD τ), .dma (dcell 4)) 0 ∗ semVal ((c : Thread nD τ), .dma (dcell 5)) 0
        ∗ semVal ((c : Thread nD τ), .dma (dcell 6)) 0 ∗ semVal ((c : Thread nD τ), .dma (dcell 7)) 0
        ∗ semVal ((c : Thread nD τ), SemLoc.dma 15) 0)
        ∗ BI.emp
        ∗ (outM.view.loc (c : Thread nD τ) ↦[outM.view.set]{fullShare} W c main_v10_0) ∗ (denM.view.loc (c : Thread nD τ) ↦[denM.view.set]{fullShare} W c main_v10_1)) := by
  unfold Pipeline.ΦDRV
  rw [scopedRest0_eq, cells_eq, BI.bigSep_empty, BI.bigSep_eq_bigSepL_of_eq [main_v10_0, main_v10_1] (by decide) (by decide)]
  rw [View.set_whole, View.set_whole, View.set_whole, View.set_whole]
  rfl

/-! ## The proof data and the body at its one point -/

/-- The arrays as the region finds them; every window's block left in place; the two results written by the body. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := Pipeline.ΦDRV osem0 spec0 ∅ R0 (V m) (if t.val = 0 then V m else G m) c
  q _ := fullShare
  owed _ := 0

/-- Each window's array is what the region finds in it. -/
theorem A_eq (c : Dev nD) (w : Fin cfg0.W) : (dats m 0 c).A w = V m c (Pipeline.arrRef spec0 w) := by
  dsimp only [dats]
/-- The body leaves this window's block in place. -/
theorem after_0 (c : Dev nD) (t : Fin cfg0.N) : (dats m 0 c).after 0 t = iblk m c 0 t := by dsimp only [dats]
/-- The body leaves this window's block in place. -/
theorem after_1 (c : Dev nD) (t : Fin cfg0.N) : (dats m 0 c).after 1 t = iblk m c 1 t := by dsimp only [dats]
/-- The body leaves this window's block in place. -/
theorem after_2 (c : Dev nD) (t : Fin cfg0.N) : (dats m 0 c).after 2 t = iblk m c 2 t := by dsimp only [dats]
/-- The body leaves this window's block in place. -/
theorem after_3 (c : Dev nD) (t : Fin cfg0.N) : (dats m 0 c).after 3 t = iblk m c 3 t := by dsimp only [dats]
/-- The body leaves this window's block in place. -/
theorem after_4 (c : Dev nD) (t : Fin cfg0.N) : (dats m 0 c).after 4 t = iblk m c 4 t := by dsimp only [dats]
/-- The body leaves this window's block in place. -/
theorem after_5 (c : Dev nD) (t : Fin cfg0.N) : (dats m 0 c).after 5 t = iblk m c 5 t := by dsimp only [dats]
/-- The body leaves this window's block in place. -/
theorem after_6 (c : Dev nD) (t : Fin cfg0.N) : (dats m 0 c).after 6 t = iblk m c 6 t := by dsimp only [dats]
/-- Before the body, window 0's staging buffer holds its block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Before the body, window 1's staging buffer holds its block. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Before the body, window 2's staging buffer holds its block. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Before the body, window 3's staging buffer holds its block. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Before the body, window 4's staging buffer holds its block. -/
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Before the body, window 5's staging buffer holds its block. -/
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Before the body, window 6's staging buffer holds its block. -/
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- What the body finds: its windows' blocks, its scratch, its cells at zero and the two results as launched. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What the body leaves: the same, with the two results written. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- What is held beside the windows before the one grid point. -/
theorem Phi_before (c : Dev nD) : (dats m 0 c).Φ t0_0.castSucc = Pipeline.ΦDRV osem0 spec0 ∅ R0 (V m) (V m) c := rfl
/-- What is held beside the windows after the one grid point. -/
theorem Phi_after (c : Dev nD) : (dats m 0 c).Φ t0_0.succ = Pipeline.ΦDRV osem0 spec0 ∅ R0 (V m) (G m) c := rfl

set_option maxHeartbeats 2000000 in
/-- The body at the grid's one point takes the data's state before it to the state after it. -/
theorem sound_body (c : Dev nD) :
    bodyPre m c t0_0 ⊢ wp frame (wpE (defs₀ (F := F)) Variants.none c none) Set.univ (bodyAt0 t0_0) (fun _ => bodyPost m c t0_0) := by
  unfold bodyPre bodyPost bodyAt0
  rw [Phi_before, Phi_after, hold_eq, hold_eq, G_sp, G_dn]
  simp only [before_0, after_0, before_1, after_1, before_2, after_2, before_3, after_3, before_4, after_4, before_5, after_5, before_6, after_6]
  unfold Dat.owesAt Pipeline.owesWithin
  rw [show (dats m 0 c).owed t0_0.castSucc = 0 from rfl, show (dats m 0 c).owed t0_0.succ = 0 from rfl]
  iintro ⟨⟨⟨Hp, Hs⟩, ⟨Hq0, Hq1, Hq2, Hq3, Hq4, Hq5, Hq6, Hq7, Hq8⟩, He, ⟨Ho, Hd⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (kernelRun c _ _ _ _ _ _ _ _ _ _ _ _ _ _ (iblk m c 0 t0_0) (iblk m c 1 t0_0) (iblk m c 2 t0_0) (iblk m c 3 t0_0) (iblk m c 4 t0_0) (iblk m c 5 t0_0) (iblk m c 6 t0_0) (V m c main_v10_1) _)
  rw [eight_eq]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hp]; · iexact Hp
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hd]; · iexact Hd
  isplitl [Hs]; · iexact Hs
  isplitl [Hq8]; · iexact Hq8
  isplitl [Ho]; · iexists _; iexact Ho
  isplitl [HW]; · iexists _; iexact HW
  iintro ⟨H0, H1, H2, H3, H4, H5, H6, Hp, ⟨Hq0, Hq1, Hq2, Hq3, Hq4, Hq5, Hq6, Hq7⟩, Hd, Hs, Hq8, Ho, ⟨%W', HW'⟩⟩
  isplitl [Hp Hs Hq0 Hq1 Hq2 Hq3 Hq4 Hq5 Hq6 Hq7 Hq8 He Ho Hd]
  · isplitl [Hp Hs]
    · isplitl [Hp]; · iexact Hp
      iexact Hs
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [He]; · iexact He
    isplitl [Ho]; · iexact Ho
    iexact Hd
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The body's row in the table of kernels. -/
theorem defs₀_row (t : Fin cfg0.N) :
    defs₀ (F := F) .tc cfg0.body (cfg0.bodyArgs t (cfg0.slots t)) = bodyAt0 t := by
  unfold defs₀; rw [Defs.onTc_tc]

/-- The body meets what the region asks of it. -/
theorem body_obligation (c : Dev nD) : BodyObligation (dats (F := F) m 0 c) (defs₀ (F := F)) Variants.none () Set.univ := fun t => by
  obtain rfl := fin_N0 t
  rw [bigSep_W0, bigSep_W0, defs₀_row]
  exact triple_restated (sound_body m c) rfl .rfl fun _ => .rfl

/-! ## The run of the whole program -/

/-- What every buffer that is no window's array ends at: the transpose over the region's leaving. -/
abbrev endOf (c : Dev nD) : Valuation τ sig (Elt F) :=
  StableHlo.after [hostOps1].flatten (Pipeline.withArrays spec0 c (Pipeline.withR (V0 m c) R0 c (G m c)) fun w => (dats m 0 c).arrAt w cfg0.N)

set_option backward.isDefEq.respectTransparency.types false in
/-- The program ends with every counter at zero and every buffer as named. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = endOf m c (Proc.devRef .tc b))
      ∧ r.2.sem = fun _ => 0) :=
  Pipeline.θ_run_frame_dmaR_aroundV (Q' := _) cfgs (dats m) (0 : Fin 1) launch0 osem0 defs₀ Variants.none ownSemFacts0 ∅ R0
    (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := around m Variants.none) (hA := A_eq m)
    (hin := fun _ => .rfl) (hout := fun _ => .rfl)
    (hQ' := fun _ h => h)

/-! ## What the run leaves, buffer by buffer -/

/-- A buffer that is neither a window's array nor the transposed result ends as the region leaves it. -/
theorem end_kept (c : Dev nD) (b : Ref sig .tc) (hb : b ≠ main_v11) (ha : ∀ w, Pipeline.arrRef spec0 w ≠ b) :
    endOf m c (Proc.devRef .tc b) = Pipeline.withR (V0 m c) R0 c (G m c) (Proc.devRef .tc b) := by
  unfold endOf
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne hb)),
    Pipeline.withArrays_of_ne _ c _ _ b ha]

/-- The first operand array ends as launched. -/
theorem end_arg0 (c : Dev nD) : endOf m c (Proc.devRef .tc main_arg0) = m ((c : Thread nD τ).loc main_arg0) := by
  rw [end_kept m c main_arg0 (by decide) (by exact (by decide : ∀ w, Pipeline.arrRef spec0 w ≠ main_arg0)),
    Pipeline.withR_of_not_mem _ _ _ _ _ (by decide)]
  exact V_main_arg0 m c

/-- The labels end as launched. -/
theorem end_arg1 (c : Dev nD) : endOf m c (Proc.devRef .tc main_arg1) = m ((c : Thread nD τ).loc main_arg1) := by
  rw [end_kept m c main_arg1 (by decide) (by exact (by decide : ∀ w, Pipeline.arrRef spec0 w ≠ main_arg1)),
    Pipeline.withR_of_not_mem _ _ _ _ _ (by decide)]
  exact V_main_arg1 m c

/-- The sparse result ends at what the body leaves. -/
theorem end_sparse (c : Dev nD) : endOf m c (Proc.devRef .tc main_v10_0) = spV m c := by
  rw [end_kept m c main_v10_0 (by decide) (by exact (by decide : ∀ w, Pipeline.arrRef spec0 w ≠ main_v10_0)),
    Pipeline.withR_of_mem _ _ _ _ _ (by decide)]
  exact G_sp m c

/-- The dense result ends at the transpose of what the body leaves. -/
theorem end_dense (c : Dev nD) : endOf m c (Proc.devRef .tc main_v11)
    = transpose S32x256x72x72 [0, 3, 1, 2] (dnV m c) transposes_S32x72x72x256_S32x256x72x72_0_3_1_2 := by
  have h : Pipeline.withArrays spec0 c (Pipeline.withR (V0 m c) R0 c (G m c)) (fun w => (dats m 0 c).arrAt w cfg0.N) (Proc.devRef .tc main_v10_1) = dnV m c := by
    rw [Pipeline.withArrays_of_ne _ c _ _ main_v10_1 (by exact (by decide : ∀ w, Pipeline.arrRef spec0 w ≠ main_v10_1)),
      Pipeline.withR_of_mem _ _ _ _ _ (by decide)]
    exact G_dn m c
  rw [← h]
  rfl

/-- On every device, from any memory with zero counters: the run ends with both results as the body and the transpose
    leave them, every argument unchanged, and every counter at zero. -/
theorem run_named : θ_run defs (onTc (τ := τ) (main (F := F))) ⟨m, fun _ => 0, ρ⟩ (fun r => (∀ c : Dev nD,
      r.2.mem ((c.tc : Thread nD τ).loc main_v10_0) = spV m c
      ∧ r.2.mem ((c.tc : Thread nD τ).loc main_v11)
          = transpose S32x256x72x72 [0, 3, 1, 2] (dnV m c) transposes_S32x72x72x256_S32x256x72x72_0_3_1_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).2 main_v10_0 (Pipeline.mem_restRefs_of main_v10_0 (by decide) (by decide))).trans (end_sparse m c),
     ((h.1 c).2 main_v11 (Pipeline.mem_restRefs_of main_v11 (by decide) (by decide))).trans (end_dense m c),
     ((h.1 c).2 main_arg0 (Pipeline.mem_restRefs_of main_arg0 (by decide) (by decide))).trans (end_arg0 m c),
     ((h.1 c).2 main_arg1 (Pipeline.mem_restRefs_of main_arg1 (by decide) (by decide))).trans (end_arg1 m c),
     ((h.1 c).1 3).trans (((dats m 0 c).arrAt_in 3 rfl _).trans ((A_eq m c 3).trans (V_main_arg2 m c))),
     ((h.1 c).1 4).trans (((dats m 0 c).arrAt_in 4 rfl _).trans ((A_eq m c 4).trans (V_main_arg3 m c))),
     ((h.1 c).1 5).trans (((dats m 0 c).arrAt_in 5 rfl _).trans ((A_eq m c 5).trans (V_main_arg4 m c))),
     ((h.1 c).1 6).trans (((dats m 0 c).arrAt_in 6 rfl _).trans ((A_eq m c 6).trans (V_main_arg5 m c)))⟩, h.2⟩) (run_main m ρ)

end Cert.KernelIdeal.Hand

end
-- ==== Proof.Consts.lean ====
module

public import Idealize.ShloMosaic.PureOps.Ideal

@[expose] public section

noncomputable section

namespace Cert.Consts

open Idealize.ShloMosaic

/-- The image extent the reference divides by denotes the real 1008. -/
theorem ofBits_extent : Ideal.ofBits .f32 0x447C0000#32 = ((1008 : ℝ) : EReal) := by
  simp [Ideal.ofBits, Ideal.ieee, -EReal.coe_mul]; norm_num

/-- Dividing by the image extent is multiplying by its reciprocal, on every extended real. -/
theorem div_extent (x : EReal) : Ideal.div x (Ideal.ofBits .f32 0x447C0000#32) = x * ((1008⁻¹ : ℝ) : EReal) := by
  rw [ofBits_extent, Ideal.div_coe (by norm_num), one_div]

end Cert.Consts

end
-- ==== Proof.RefIdeal.lean ====
module

public import proofs.«01_k».proof.Proof.Gen.ReferenceIdeal.Run
public import proofs.«01_k».proof.Proof.Consts
public import Idealize.ShloMosaic.Lib.Pointwise
public import Idealize.ShloMosaic.Lib.ReduceAll
public import Idealize.ShloMosaic.Lib.WordCmp

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

variable {F : FTy → Type} [FloatOps F]

/-! ## The reference's sparse result, in named stages of the padded points and the padded labels -/

/-- The points moved to pixel centres, a zero point after each row's 64. -/
def points (a : FVec F S32x64x2 .f32) : FVec F S32x65x2 .f32 :=
  concatenate S32x65x2 1 [⟨S32x64x2, (addf a (broadcastInDim S32x64x2 ![] bcast_S_S32x64x2 (constant S_ .f32 0x3F000000#32)))⟩, ⟨S32x1x2, (broadcastInDim S32x1x2 ![] bcast_S_S32x1x2 (constant S_ .f32 0x00000000#32))⟩] concatenates_S32x64x2_S32x1x2_S32x65x2_d1

/-- The labels, a -1 after each row's 64. -/
def labels (a : IVec S32x64 32) : IVec S32x65 32 :=
  concatenate S32x65 1 [⟨S32x64, a⟩, ⟨S32x1, (negi (broadcastInDim S32x1 ![] bcast_S_S32x1 (constantI S_ 32 1#32)))⟩] concatenates_S32x64_S32x1_S32x65_d1

/-- The angle of each frequency: the centred coordinates against the two rows of frequencies, by the float 6.2831855. -/
def angle (xs : FVec F S32x65x2 .f32) (p : FVec F S2x128 .f32) : FVec F S32x65x128 .f32 :=
  mulf (broadcastInDim S32x65x128 ![] bcast_S_S32x65x128 (constant S_ .f32 0x40C90FDB#32)) (Host.dotGeneral dot_S32x65x2_S2x128_S32x65x128_2_0_01_1_n_n none (subf (mulf (broadcastInDim S32x65x2 ![] bcast_S_S32x65x2 (constant S_ .f32 0x40000000#32)) (concatenate S32x65x2 2 [⟨S32x65x1, (Host.divf (extractStridedSlice S32x65x1 ![0, 0, 0] xs slices_S32x65x2_S32x65x1_0_0_0) (broadcastInDim S32x65x1 ![] bcast_S_S32x65x1 (constant S_ .f32 0x447C0000#32)))⟩, ⟨S32x65x1, (Host.divf (extractStridedSlice S32x65x1 ![0, 0, 1] xs slices_S32x65x2_S32x65x1_0_0_1) (broadcastInDim S32x65x1 ![] bcast_S_S32x65x1 (constant S_ .f32 0x447C0000#32)))⟩] concatenates_S32x65x1_S32x65x1_S32x65x2_d2)) (broadcastInDim S32x65x2 ![] bcast_S_S32x65x2 (constant S_ .f32 0x3F800000#32))) p)

/-- The sines, then the cosines. -/
def waves (xs : FVec F S32x65x2 .f32) (p : FVec F S2x128 .f32) : FVec F S32x65x256 .f32 :=
  concatenate S32x65x256 2 [⟨S32x65x128, (Host.sin (angle xs p))⟩, ⟨S32x65x128, (Host.cos (angle xs p))⟩] concatenates_S32x65x128_S32x65x128_S32x65x256_d2

/-- The table row each point asks for. -/
def rowIx (lab : IVec S32x65 32) : IVec S32x65x1 32 :=
  broadcastInDim S32x65x1 ![0, 1] bcast_S32x65_S32x65x1_0_1 (select (cmpi .slt (maxsi lab (broadcastInDim S32x65 ![] bcast_S_S32x65 (constantI S_ 32 0#32))) (broadcastInDim S32x65 ![] bcast_S_S32x65 (constantI S_ 32 0#32))) (addi (maxsi lab (broadcastInDim S32x65 ![] bcast_S_S32x65 (constantI S_ 32 0#32))) (broadcastInDim S32x65 ![] bcast_S_S32x65 (constantI S_ 32 4#32))) (maxsi lab (broadcastInDim S32x65 ![] bcast_S_S32x65 (constantI S_ 32 0#32))))

/-- Whether the row asked for is in the table. -/
def inTable (lab : IVec S32x65 32) : IVec S32x65 1 :=
  Host.reduce IntOp.andi (andi (cmpi .sge (rowIx lab) (broadcastInDim S32x65x1 ![] bcast_S_S32x65x1 (constantI S_ 32 0#32))) (cmpi .sle (rowIx lab) (broadcastInDim S32x65x1 ![0, 1, 2] bcast_S1x1x1_S32x65x1_0_1_2 (broadcastInDim S1x1x1 ![2] bcast_S1_S1x1x1_2 (constantI S1 32 3#32))))) (constantI S_ 1 1#1) reducesTo_S32x65x1_S32x65_d2 h_S_

/-- The table's row at each point. -/
def rowOf (tbl : FVec F S4x256 .f32) (lab : IVec S32x65 32) : FVec F S32x65x256 .f32 :=
  select (broadcastInDim S32x65x256 ![0, 1] bcast_S32x65_S32x65x256_0_1 (inTable lab)) (Host.gather gather_S4x256_S32x65x1_S32x65x256_2_0_n_n_0_2_1256 tbl (rowIx lab)) (broadcastInDim S32x65x256 ![] bcast_S_S32x65x256 (constant S_ .f32 0x7FC00000#32))

/-- The sparse embedding. -/
def sparse (xs : FVec F S32x65x2 .f32) (lab : IVec S32x65 32) (p : FVec F S2x128 .f32) (tbl : FVec F S4x256 .f32) (nap : FVec F S1x256 .f32) : FVec F S32x65x256 .f32 :=
  addf (mulf (addf (mulf (waves xs p) (broadcastInDim S32x65x256 ![0, 1, 2] bcast_S32x65x1_S32x65x256_0_1_2 (subf (broadcastInDim S32x65x1 ![] bcast_S_S32x65x1 (constant S_ .f32 0x3F800000#32)) (broadcastInDim S32x65x1 ![0, 1] bcast_S32x65_S32x65x1_0_1 (uitofp .f32 (cmpi .eq lab (broadcastInDim S32x65 ![] bcast_S_S32x65 (constantI S_ 32 4294967295#32)))))))) (mulf (broadcastInDim S32x65x256 ![0, 1, 2] bcast_S1x1x256_S32x65x256_0_1_2 (broadcastInDim S1x1x256 ![2] bcast_S256_S1x1x256_2 (shapeCast _ nap shapeCasts_S1x256_S256))) (broadcastInDim S32x65x256 ![0, 1, 2] bcast_S32x65x1_S32x65x256_0_1_2 (broadcastInDim S32x65x1 ![0, 1] bcast_S32x65_S32x65x1_0_1 (uitofp .f32 (cmpi .eq lab (broadcastInDim S32x65 ![] bcast_S_S32x65 (constantI S_ 32 4294967295#32)))))))) (broadcastInDim S32x65x256 ![0, 1, 2] bcast_S32x65x1_S32x65x256_0_1_2 (broadcastInDim S32x65x1 ![0, 1] bcast_S32x65_S32x65x1_0_1 (uitofp .f32 (cmpi .ne lab (broadcastInDim S32x65 ![] bcast_S_S32x65 (constantI S_ 32 4294967286#32))))))) (mulf (rowOf tbl lab) (broadcastInDim S32x65x256 ![0, 1, 2] bcast_S32x65x1_S32x65x256_0_1_2 (broadcastInDim S32x65x1 ![0, 1] bcast_S32x65_S32x65x1_0_1 (uitofp .f32 (cmpi .sge lab (broadcastInDim S32x65 ![] bcast_S_S32x65 (constantI S_ 32 0#32)))))))

/-- The reference's first result is the sparse embedding of its padded arguments. -/
theorem sparse_eq (m : (ℓ : Loc nD τ sig) → Buf (Elt F) ℓ) (c : Dev nD) :
    res_main_v55 m c = sparse (points (m ((c.tc : Thread nD τ).loc main_arg0))) (labels (m ((c.tc : Thread nD τ).loc main_arg1)))
      (m ((c.tc : Thread nD τ).loc main_arg2)) (m ((c.tc : Thread nD τ).loc main_arg3)) (m ((c.tc : Thread nD τ).loc main_arg4)) := by
  unfold res_main_v55 sparse rowOf inTable rowIx waves angle labels points
  rfl

/-! ## Read at an index, on the extended reals -/

/-- The padded points at an index. -/
theorem points_at (a : FVec Ideal S32x64x2 .f32) (r : Fin 32) (s : Fin 65) (h : Fin 2) :
    points a (ix3 r s h) = if hs : s.val < 64 then a (ix3 r ⟨s.val, hs⟩ h) + Ideal.ofBits .f32 0x3F000000#32 else 0 := by
  pointwise [points]

/-- The padded labels at an index. -/
theorem labels_at (a : IVec S32x64 32) (r : Fin 32) (s : Fin 65) :
    labels a (ix2 r s) = if hs : s.val < 64 then a (ix2 r ⟨s.val, hs⟩) else 4294967295#32 := by
  pointwise [labels]
  rfl

/-- The angle at an index: the two centred coordinates against their frequencies. -/
theorem angle_at (xs : FVec Ideal S32x65x2 .f32) (p : FVec Ideal S2x128 .f32) (r : Fin 32) (s : Fin 65) (h : Fin 128) :
    angle xs p (ix3 r s h) = Ideal.ofBits .f32 0x40C90FDB#32 *
      ((Ideal.ofBits .f32 0x40000000#32 * (xs (ix3 r s 0) * ((1008⁻¹ : ℝ) : EReal)) - 1) * p (ix2 0 h)
        + (Ideal.ofBits .f32 0x40000000#32 * (xs (ix3 r s 1) * ((1008⁻¹ : ℝ) : EReal)) - 1) * p (ix2 1 h)) := by
  pointwise [angle]
  simp only [Finset.univ_unique, Finset.sum_singleton, Cert.Consts.div_extent]

/-- The sines and cosines at an index. -/
theorem waves_at (xs : FVec Ideal S32x65x2 .f32) (p : FVec Ideal S2x128 .f32) (r : Fin 32) (s : Fin 65) (h : Fin 256) :
    waves xs p (ix3 r s h) = if hh : h.val < 128 then Ideal.sin (angle xs p (ix3 r s ⟨h.val, hh⟩))
      else Ideal.cos (angle xs p (ix3 r s ⟨h.val - 128, by omega⟩)) := by
  pointwise [waves]

/-! ## The table's row -/

/-- A label below 4, raised to at least 0, is one of the four row numbers. -/
theorem clamp_cases (l : BitVec 32) (h : l.toInt < 4) : IntOp.maxsi l 0#32 = 0#32 ∨ IntOp.maxsi l 0#32 = 1#32
    ∨ IntOp.maxsi l 0#32 = 2#32 ∨ IntOp.maxsi l 0#32 = 3#32 := by
  by_cases h0 : l.toInt ≤ 0
  · left
    unfold IntOp.maxsi
    rw [if_neg]
    intro hc
    have := BitVec.slt_iff_toInt_lt.1 hc
    have e0 : (0#32 : BitVec 32).toInt = 0 := by decide
    omega
  · have hm : IntOp.maxsi l 0#32 = l := by
      unfold IntOp.maxsi
      rw [if_pos]
      apply BitVec.slt_iff_toInt_lt.2
      have e0 : (0#32 : BitVec 32).toInt = 0 := by decide
      omega
    rw [hm]
    have : l.toInt = 1 ∨ l.toInt = 2 ∨ l.toInt = 3 := by omega
    rcases this with e | e | e
    · right; left; exact BitVec.eq_of_toInt_eq (by rw [e]; decide)
    · right; right; left; exact BitVec.eq_of_toInt_eq (by rw [e]; decide)
    · right; right; right; exact BitVec.eq_of_toInt_eq (by rw [e]; decide)

/-- The row number at an index. -/
theorem rowIx_at (lab : IVec S32x65 32) (r : Fin 32) (s : Fin 65) (z : Fin 1) :
    rowIx lab (ix3 r s z) = Scalar.select (IntOp.cmpi .slt (IntOp.maxsi (lab (ix2 r s)) 0#32) 0#32)
      (IntOp.addi (IntOp.maxsi (lab (ix2 r s)) 0#32) 4#32) (IntOp.maxsi (lab (ix2 r s)) 0#32) := by
  pointwise [rowIx]

/-- The range test at an index. -/
theorem inTable_at (lab : IVec S32x65 32) (r : Fin 32) (s : Fin 65) :
    inTable lab (ix2 r s) = IntOp.andi (IntOp.andi (IntOp.cmpi .sge (rowIx lab (ix3 r s 0)) 0#32)
      (IntOp.cmpi .sle (rowIx lab (ix3 r s 0)) 3#32)) 1#1 := by
  pointwise [inTable]
  rw [show (Finset.univ : Finset (Fin 1)) = {0} from rfl, Finset.fold_singleton]

/-- The lookup at an index: column `h` of the row asked for. -/
theorem gather_at (tbl : FVec Ideal S4x256 .f32) (idx : IVec S32x65x1 32) (r : Fin 32) (s : Fin 65) (h : Fin 256) (b : Fin 4)
    (hb : min (idx (ix3 r s 0)).toInt.toNat 3 = b.val) :
    Host.gather gather_S4x256_S32x65x1_S32x65x256_2_0_n_n_0_2_1256 tbl idx (ix3 r s h) = tbl (ix2 b h) := by
  unfold Host.gather
  refine congrArg tbl (funext fun a => Fin.ext ?_)
  match a with
  | ⟨0, _⟩ =>
    show GatherDims.start _ (ix3 r s h) idx 0 + GatherDims.batchCoord _ (ix3 r s h) 0 + GatherDims.offCoord _ (ix3 r s h) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4x256_S32x65x1_S32x65x256_2_0_n_n_0_2_1256.startIndexMap from List.mem_singleton.mpr rfl)]
    have hsi : gather_S4x256_S32x65x1_S32x65x256_2_0_n_n_0_2_1256.siIdx (ix3 r s h)
        ⟨List.idxOf (0 : Fin 2) gather_S4x256_S32x65x1_S32x65x256_2_0_n_n_0_2_1256.startIndexMap,
          List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    exact hb
  | ⟨1, _⟩ =>
    show GatherDims.start _ (ix3 r s h) idx 1 + GatherDims.batchCoord _ (ix3 r s h) 1 + GatherDims.offCoord _ (ix3 r s h) 1 = h.val
    rw [GatherDims.batchCoord_eq_zero _ _ _ List.not_mem_nil]
    unfold GatherDims.start
    rw [dif_neg (show (1 : Fin 2) ∉ gather_S4x256_S32x65x1_S32x65x256_2_0_n_n_0_2_1256.startIndexMap from by
      intro hm; exact absurd (List.mem_singleton.mp hm) (by decide))]
    simp only [Nat.zero_add]
    rfl

/-- The table's row at an index, for a label below 4: a choice among the four rows. -/
theorem rowOf_at (tbl : FVec Ideal S4x256 .f32) (lab : IVec S32x65 32) (r : Fin 32) (s : Fin 65) (h : Fin 256)
    (hl : (lab (ix2 r s)).toInt < 4) :
    rowOf tbl lab (ix3 r s h) =
      Scalar.select (IntOp.cmpi .eq (IntOp.maxsi (lab (ix2 r s)) 0#32) 0#32) (tbl (ix2 0 h))
        (Scalar.select (IntOp.cmpi .eq (IntOp.maxsi (lab (ix2 r s)) 0#32) 1#32) (tbl (ix2 1 h))
          (Scalar.select (IntOp.cmpi .eq (IntOp.maxsi (lab (ix2 r s)) 0#32) 2#32) (tbl (ix2 2 h)) (tbl (ix2 3 h)))) := by
  have e := rowIx_at lab r s 0
  pointwise [rowOf]
  rw [inTable_at]
  rcases clamp_cases _ hl with w | w | w | w
  · rw [w] at e
    rw [gather_at tbl _ r s h 0 (by rw [e]; decide), e, w]; rfl
  · rw [w] at e
    rw [gather_at tbl _ r s h 1 (by rw [e]; decide), e, w]; rfl
  · rw [w] at e
    rw [gather_at tbl _ r s h 2 (by rw [e]; decide), e, w]; rfl
  · rw [w] at e
    rw [gather_at tbl _ r s h 3 (by rw [e]; decide), e, w]; rfl

/-- The sparse embedding at an index. -/
theorem sparse_at (xs : FVec Ideal S32x65x2 .f32) (lab : IVec S32x65 32) (p : FVec Ideal S2x128 .f32) (tbl : FVec Ideal S4x256 .f32)
    (nap : FVec Ideal S1x256 .f32) (r : Fin 32) (s : Fin 65) (h : Fin 256) :
    sparse xs lab p tbl nap (ix3 r s h) =
      (waves xs p (ix3 r s h) * (1 - FloatOps.uitofp .f32 (IntOp.cmpi .eq (lab (ix2 r s)) 4294967295#32)) +
          nap (ix2 0 h) * FloatOps.uitofp .f32 (IntOp.cmpi .eq (lab (ix2 r s)) 4294967295#32)) *
        FloatOps.uitofp .f32 (IntOp.cmpi .ne (lab (ix2 r s)) 4294967286#32) +
      rowOf tbl lab (ix3 r s h) * FloatOps.uitofp .f32 (IntOp.cmpi .sge (lab (ix2 r s)) 0#32) := by
  pointwise [sparse]

/-! ## The kernel's forms of the masks -/

/-- A mask bit as a float, read as a word or as a bit. -/
theorem mask_eq (b : BitVec 1) : (FloatOps.sitofp (F := Ideal) .f32 (BitVec.setWidth 32 b) : Ideal .f32) = FloatOps.uitofp .f32 b := by
  have hb : b = 0#1 ∨ b = 1#1 := by revert b; decide
  show (((BitVec.setWidth 32 b).toInt : ℝ) : EReal) = ((b.toNat : ℝ) : EReal)
  rcases hb with rfl | rfl
  · rw [show (BitVec.setWidth 32 (0#1)).toInt = 0 from by decide, show (0#1).toNat = 0 from by decide]; simp
  · rw [show (BitVec.setWidth 32 (1#1)).toInt = 1 from by decide, show (1#1).toNat = 1 from by decide]; simp

/-- Blending by a mask bit is choosing by it. -/
theorem blend_eq (b : BitVec 1) (x y : EReal) :
    x * (1 - (FloatOps.uitofp (F := Ideal) .f32 b : Ideal .f32)) + y * (FloatOps.uitofp (F := Ideal) .f32 b : Ideal .f32) = Scalar.select b y x := by
  have hb : b = 0#1 ∨ b = 1#1 := by revert b; decide
  have hu : (FloatOps.uitofp (F := Ideal) .f32 b : EReal) = ((b.toNat : ℝ) : EReal) := rfl
  rw [hu]
  rcases hb with rfl | rfl
  · rw [show (0#1).toNat = 0 from by decide]
    show _ = x
    simp
  · rw [show (1#1).toNat = 1 from by decide]
    show _ = y
    have h1 : (1 : EReal) - ((1 : ℕ) : ℝ) = 0 := by
      rw [Nat.cast_one, ← EReal.coe_one, ← EReal.coe_sub]; simp
    rw [h1]; simp

end Cert.ReferenceIdeal.Hand

end
-- ==== Proof.SparseIdeal.lean ====
module

public import proofs.«01_k».proof.Proof.LaunchIdeal
public import proofs.«01_k».proof.Proof.RefIdeal
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe

/-! ## The kernel's stages at an index, on the extended reals -/

/-- The reciprocal of the image extent, by its name. -/
theorem inv_extent : (Named.named κ "inv_size" 0x3A820821#32 : Ideal .f32) = ((1008⁻¹ : ℝ) : EReal) :=
  IdealRules.named_const.ideal_named_scalar _ _ _ _ rfl

/-- One row of the frequencies, read at a column. -/
theorem freq_row (x : Vec Ideal S2x128 .f32) (b : Fin 2) (inb) (z : Fin 1) (h : Fin 128) :
    VecWindow.window x ![b.val, 0] S1x128.size inb (ix2 z h) = x (ix2 b h) := by
  show x _ = x _
  congr 1; funext a; apply Fin.ext
  match a with
  | ⟨0, _⟩ => show b.val + 1 * z.val = b.val; omega
  | ⟨1, _⟩ => show 0 + 1 * h.val = h.val; omega

/-- One row of the table, read at a column. -/
theorem table_row (x : Vec Ideal S4x256 .f32) (b : Fin 4) (inb) (z : Fin 1) (h : Fin 256) :
    VecWindow.window x ![b.val, 0] S1x256.size inb (ix2 z h) = x (ix2 b h) := by
  show x _ = x _
  congr 1; funext a; apply Fin.ext
  match a with
  | ⟨0, _⟩ => show b.val + 1 * z.val = b.val; omega
  | ⟨1, _⟩ => show 0 + 1 * h.val = h.val; omega

/-- The centred coordinates against the two rows of frequencies. -/
theorem angle_at (x y : Vec Ideal S32x65x1 .f32) (p q : Vec Ideal S1x128 .f32) (r : Fin 32) (s : Fin 65) (h : Fin 128) :
    k0_pay3 x y p q (ix3 r s h) =
      (Ideal.ofBits .f32 0x40000000#32 * (x (ix3 r s 0) * ((1008⁻¹ : ℝ) : EReal)) - 1) * p (ix2 0 h)
        + (Ideal.ofBits .f32 0x40000000#32 * (y (ix3 r s 0) * ((1008⁻¹ : ℝ) : EReal)) - 1) * q (ix2 0 h) := by
  rw [← inv_extent]
  pointwise [k0_pay3]

/-- The wave part, replaced by the not-a-point row where the label is -1, and cleared where it is -10. -/
theorem wave_at (l : Vec Ideal S32x65x1 .i32) (x y : Vec Ideal S32x65x128 .f32) (n : Vec Ideal S1x256 .f32) (r : Fin 32) (s : Fin 65) (h : Fin 256) :
    k0_pay5 l x y n (ix3 r s h) =
      Scalar.select (IntOp.cmpi .eq (l (ix3 r s 0)) 4294967295#32) (n (ix2 0 h))
        (if hh : h.val < 128 then Ideal.sin (y (ix3 r s ⟨h.val, hh⟩) * x (ix3 r s ⟨h.val, hh⟩))
          else Ideal.cos (y (ix3 r s ⟨h.val - 128, by omega⟩) * x (ix3 r s ⟨h.val - 128, by omega⟩)))
        * FloatOps.sitofp .f32 (BitVec.setWidth 32 (IntOp.cmpi .ne (l (ix3 r s 0)) 4294967286#32)) := by
  pointwise [k0_pay5]

/-- The table part added on, where the label is not negative. -/
theorem total_at (l : Vec Ideal S32x65x1 .i32) (x : Vec Ideal S32x65x256 .f32) (a b c d : Vec Ideal S1x256 .f32) (r : Fin 32) (s : Fin 65) (h : Fin 256) :
    k0_pay12 l x (k0_pay7 a) (k0_pay8 b) (k0_pay9 l) (k0_pay10 l c d) (k0_pay11 l) (ix3 r s h) =
      x (ix3 r s h) +
        Scalar.select (IntOp.cmpi .eq (IntOp.maxsi (l (ix3 r s 0)) 0#32) 0#32) (a (ix2 0 h))
          (Scalar.select (IntOp.cmpi .eq (IntOp.maxsi (l (ix3 r s 0)) 0#32) 1#32) (b (ix2 0 h))
            (Scalar.select (IntOp.cmpi .eq (IntOp.maxsi (l (ix3 r s 0)) 0#32) 2#32) (c (ix2 0 h)) (d (ix2 0 h))))
        * FloatOps.sitofp .f32 (BitVec.setWidth 32 (IntOp.cmpi .sge (l (ix3 r s 0)) 0#32)) := by
  pointwise [k0_pay12, k0_pay7, k0_pay8, k0_pay9, k0_pay10, k0_pay11, k0_pay6]

/-- The labels pass unchanged. -/
theorem labels_kept (l : Vec Ideal S32x65x1 .i32) (r : Fin 32) (s : Fin 65) (z : Fin 1) : k0_pay2 l (ix3 r s z) = l (ix3 r s z) := by
  pointwise [k0_pay2]

/-- The constant factor of the angles. -/
theorem turn_at (r : Fin 32) (s : Fin 65) (h : Fin 128) : (k0_pay4 (F := Ideal)) (ix3 r s h) = Ideal.ofBits .f32 0x40C90FDB#32 := by
  pointwise [k0_pay4]

/-- Column by column, what the kernel leaves is the reference's embedding, for labels below 4. -/
theorem spC_at (x0 x1 : Vec Ideal S32x65x1 .f32) (x2 : Vec Ideal S32x65x1 .i32) (p : Vec Ideal S2x128 .f32) (tbl : Vec Ideal S4x256 .f32)
    (nap : Vec Ideal S1x256 .f32) (xs : Vec Ideal S32x65x2 .f32) (lab : IVec S32x65 32) (r : Fin 32) (s : Fin 65) (h : Fin 256)
    (h0 : x0 (ix3 r s 0) = xs (ix3 r s 0)) (h1 : x1 (ix3 r s 0) = xs (ix3 r s 1)) (h2 : x2 (ix3 r s 0) = lab (ix2 r s))
    (hl : (lab (ix2 r s)).toInt < 4) :
    spC x0 x1 x2 p tbl nap (ix3 r s h) = Cert.ReferenceIdeal.Hand.sparse (F := Ideal) xs lab p tbl nap (ix3 r s h) := by
  have ha : ∀ k : Fin 128, (k0_pay4 (F := Ideal)) (ix3 r s k) *
      k0_pay3 x0 x1 (VecWindow.window p ![0, 0] S1x128.size inb_S2x128_S1x128_0_0) (VecWindow.window p ![1, 0] S1x128.size inb_S2x128_S1x128_1_0) (ix3 r s k)
      = Cert.ReferenceIdeal.Hand.angle (F := Ideal) xs p (ix3 r s k) := fun k => by
    rw [turn_at, angle_at, Cert.ReferenceIdeal.Hand.angle_at, h0, h1]
    rw [show VecWindow.window p ![0, 0] S1x128.size inb_S2x128_S1x128_0_0 (ix2 0 k) = p (ix2 0 k) from freq_row p 0 _ 0 k,
      show VecWindow.window p ![1, 0] S1x128.size inb_S2x128_S1x128_1_0 (ix2 0 k) = p (ix2 1 k) from freq_row p 1 _ 0 k]
  unfold spC
  rw [total_at, wave_at, labels_kept, h2, Cert.ReferenceIdeal.Hand.sparse_at, Cert.ReferenceIdeal.Hand.rowOf_at _ _ _ _ _ hl,
    Cert.ReferenceIdeal.Hand.blend_eq, Cert.ReferenceIdeal.Hand.waves_at, Cert.ReferenceIdeal.Hand.mask_eq, Cert.ReferenceIdeal.Hand.mask_eq]
  simp only [ha]
  rw [show VecWindow.window tbl ![0, 0] S1x256.size inb_S4x256_S1x256_0_0 (ix2 0 h) = tbl (ix2 0 h) from table_row tbl 0 _ 0 h,
    show VecWindow.window tbl ![1, 0] S1x256.size inb_S4x256_S1x256_1_0 (ix2 0 h) = tbl (ix2 1 h) from table_row tbl 1 _ 0 h,
    show VecWindow.window tbl ![2, 0] S1x256.size inb_S4x256_S1x256_2_0 (ix2 0 h) = tbl (ix2 2 h) from table_row tbl 2 _ 0 h,
    show VecWindow.window tbl ![3, 0] S1x256.size inb_S4x256_S1x256_3_0 (ix2 0 h) = tbl (ix2 3 h) from table_row tbl 3 _ 0 h]

/-! ## What the windows hold -/

variable (m : (ℓ : Loc nD τ sig) → Buf (Elt Ideal) ℓ)

/-- The one block of window 0 is its whole array. -/
theorem blk0 (c : Dev nD) : iblk m c 0 t0_0 = V m c main_v4 := by
  funext j
  show V m c main_v4 (((cfg0.win 0).blk t0_0).view.emb j) = V m c main_v4 j
  congr 1; funext a; apply Fin.ext
  match a with
  | ⟨0, _⟩ => show 0 * 32 + 1 * (j 0).val = (j 0).val; omega
  | ⟨1, _⟩ => show 0 * 65 + 1 * (j 1).val = (j 1).val; omega
  | ⟨2, _⟩ => show 0 * 1 + 1 * (j 2).val = (j 2).val; omega

/-- The one block of window 1 is its whole array. -/
theorem blk1 (c : Dev nD) : iblk m c 1 t0_0 = V m c main_v5 := by
  funext j
  show V m c main_v5 (((cfg0.win 1).blk t0_0).view.emb j) = V m c main_v5 j
  congr 1; funext a; apply Fin.ext
  match a with
  | ⟨0, _⟩ => show 0 * 32 + 1 * (j 0).val = (j 0).val; omega
  | ⟨1, _⟩ => show 0 * 65 + 1 * (j 1).val = (j 1).val; omega
  | ⟨2, _⟩ => show 0 * 1 + 1 * (j 2).val = (j 2).val; omega

/-- The one block of window 2 is its whole array. -/
theorem blk2 (c : Dev nD) : iblk m c 2 t0_0 = V m c main_v9 := by
  funext j
  show V m c main_v9 (((cfg0.win 2).blk t0_0).view.emb j) = V m c main_v9 j
  congr 1; funext a; apply Fin.ext
  match a with
  | ⟨0, _⟩ => show 0 * 32 + 1 * (j 0).val = (j 0).val; omega
  | ⟨1, _⟩ => show 0 * 65 + 1 * (j 1).val = (j 1).val; omega
  | ⟨2, _⟩ => show 0 * 1 + 1 * (j 2).val = (j 2).val; omega

/-- The one block of window 3 is the frequencies. -/
theorem blk3 (c : Dev nD) : iblk m c 3 t0_0 = m ((c : Thread nD τ).loc main_arg2) := by
  rw [← V_main_arg2 m c]
  funext j
  show V m c main_arg2 (((cfg0.win 3).blk t0_0).view.emb j) = V m c main_arg2 j
  congr 1; funext a; apply Fin.ext
  match a with
  | ⟨0, _⟩ => show 0 * 2 + 1 * (j 0).val = (j 0).val; omega
  | ⟨1, _⟩ => show 0 * 128 + 1 * (j 1).val = (j 1).val; omega

/-- The one block of window 4 is the table. -/
theorem blk4 (c : Dev nD) : iblk m c 4 t0_0 = m ((c : Thread nD τ).loc main_arg3) := by
  rw [← V_main_arg3 m c]
  funext j
  show V m c main_arg3 (((cfg0.win 4).blk t0_0).view.emb j) = V m c main_arg3 j
  congr 1; funext a; apply Fin.ext
  match a with
  | ⟨0, _⟩ => show 0 * 4 + 1 * (j 0).val = (j 0).val; omega
  | ⟨1, _⟩ => show 0 * 256 + 1 * (j 1).val = (j 1).val; omega

/-- The one block of window 5 is the not-a-point row. -/
theorem blk5 (c : Dev nD) : iblk m c 5 t0_0 = m ((c : Thread nD τ).loc main_arg4) := by
  rw [← V_main_arg4 m c]
  funext j
  show V m c main_arg4 (((cfg0.win 5).blk t0_0).view.emb j) = V m c main_arg4 j
  congr 1; funext a; apply Fin.ext
  match a with
  | ⟨0, _⟩ => show 0 * 1 + 1 * (j 0).val = (j 0).val; omega
  | ⟨1, _⟩ => show 0 * 256 + 1 * (j 1).val = (j 1).val; omega

/-- The one block of window 6 is the no-mask row. -/
theorem blk6 (c : Dev nD) : iblk m c 6 t0_0 = m ((c : Thread nD τ).loc main_arg5) := by
  rw [← V_main_arg5 m c]
  funext j
  show V m c main_arg5 (((cfg0.win 6).blk t0_0).view.emb j) = V m c main_arg5 j
  congr 1; funext a; apply Fin.ext
  match a with
  | ⟨0, _⟩ => show 0 * 1 + 1 * (j 0).val = (j 0).val; omega
  | ⟨1, _⟩ => show 0 * 256 + 1 * (j 1).val = (j 1).val; omega

/-- The first coordinates, as the host pads them. -/
theorem V_px (c : Dev nD) (r : Fin 32) (s : Fin 65) :
    V m c main_v4 (ix3 r s 0) = Cert.ReferenceIdeal.Hand.points (F := Ideal) (m ((c : Thread nD τ).loc main_arg0)) (ix3 r s 0) := by
  have e : V m c main_v4 = extractStridedSlice S32x65x1 ![0, 0, 0]
      (Cert.ReferenceIdeal.Hand.points (F := Ideal) (m ((c : Thread nD τ).loc main_arg0))) slices_S32x65x2_S32x65x1_0_0_0 := by
    show StableHlo.after (List.flatten [hostOps0]) (fun b => m (c, b)) (Proc.devRef .tc main_v4) = _
    simp only [hostOps0, List.flatten_cons, List.flatten_nil, List.append_nil, List.cons_append, List.nil_append]
    after_results_simp <;> rfl
  rw [e]
  pointwise []

/-- The second coordinates, as the host pads them. -/
theorem V_py (c : Dev nD) (r : Fin 32) (s : Fin 65) :
    V m c main_v5 (ix3 r s 0) = Cert.ReferenceIdeal.Hand.points (F := Ideal) (m ((c : Thread nD τ).loc main_arg0)) (ix3 r s 1) := by
  have e : V m c main_v5 = extractStridedSlice S32x65x1 ![0, 0, 1]
      (Cert.ReferenceIdeal.Hand.points (F := Ideal) (m ((c : Thread nD τ).loc main_arg0))) slices_S32x65x2_S32x65x1_0_0_1 := by
    show StableHlo.after (List.flatten [hostOps0]) (fun b => m (c, b)) (Proc.devRef .tc main_v5) = _
    simp only [hostOps0, List.flatten_cons, List.flatten_nil, List.append_nil, List.cons_append, List.nil_append]
    after_results_simp <;> rfl
  rw [e]
  pointwise []

/-- The labels, as the host pads them. -/
theorem V_lab (c : Dev nD) (r : Fin 32) (s : Fin 65) :
    V m c main_v9 (ix3 r s 0) = Cert.ReferenceIdeal.Hand.labels (m ((c : Thread nD τ).loc main_arg1)) (ix2 r s) := by
  have e : V m c main_v9 = broadcastInDim S32x65x1 ![0, 1] bcast_S32x65_S32x65x1_0_1
      (Cert.ReferenceIdeal.Hand.labels (m ((c : Thread nD τ).loc main_arg1))) := by
    show StableHlo.after (List.flatten [hostOps0]) (fun b => m (c, b)) (Proc.devRef .tc main_v9) = _
    simp only [hostOps0, List.flatten_cons, List.flatten_nil, List.append_nil, List.cons_append, List.nil_append]
    after_results_simp <;> rfl
  rw [e]
  pointwise []

/-! ## The two results -/

/-- The sparse result is the reference's embedding of the launched arguments, when every label is below 4. -/
theorem sparse_result (c : Dev nD) (hl : ∀ i, (m ((c : Thread nD τ).loc main_arg1) i : BitVec 32).toInt < 4) :
    spV m c = Cert.ReferenceIdeal.Hand.sparse (F := Ideal) (Cert.ReferenceIdeal.Hand.points (m ((c : Thread nD τ).loc main_arg0)))
      (Cert.ReferenceIdeal.Hand.labels (m ((c : Thread nD τ).loc main_arg1))) (m ((c : Thread nD τ).loc main_arg2))
      (m ((c : Thread nD τ).loc main_arg3)) (m ((c : Thread nD τ).loc main_arg4)) := by
  funext i
  obtain ⟨r, s, h, rfl⟩ : ∃ (r : Fin 32) (s : Fin 65) (h : Fin 256), i = ix3 r s h :=
    ⟨i 0, i 1, i 2, by funext a; match a with | ⟨0, _⟩ => rfl | ⟨1, _⟩ => rfl | ⟨2, _⟩ => rfl⟩
  unfold spV
  rw [blk0, blk1, blk2, blk3, blk4, blk5]
  refine spC_at _ _ _ _ _ _ _ _ r s h (V_px m c r s) (V_py m c r s) (V_lab m c r s) ?_
  rw [Cert.ReferenceIdeal.Hand.labels_at]
  split
  · exact hl _
  · decide

/-- The dense result is the no-mask row broadcast, as the reference broadcasts it. -/
theorem dense_result (c : Dev nD) :
    transpose S32x256x72x72 [0, 3, 1, 2] (dnV m c) transposes_S32x72x72x256_S32x256x72x72_0_3_1_2
      = broadcastInDim Cert.ReferenceIdeal.S32x256x72x72 ![0, 1, 2, 3] Cert.ReferenceIdeal.Facts₀.bcast_S1x256x1x1_S32x256x72x72_0_1_2_3
          (shapeCast Cert.ReferenceIdeal.S1x256x1x1 (shapeCast Cert.ReferenceIdeal.S256 (m ((c : Thread nD τ).loc main_arg5) : FVec Ideal Cert.ReferenceIdeal.S1x256 .f32)
            Cert.ReferenceIdeal.Facts₀.shapeCasts_S1x256_S256) Cert.ReferenceIdeal.Facts₀.shapeCasts_S256_S1x256x1x1) := by
  unfold dnV
  rw [blk6]
  funext i
  obtain ⟨b, h, x, y, rfl⟩ : ∃ (b : Fin 32) (h : Fin 256) (x y : Fin 72), i = ix4 b h x y :=
    ⟨i 0, i 1, i 2, i 3, by funext a; match a with | ⟨0, _⟩ => rfl | ⟨1, _⟩ => rfl | ⟨2, _⟩ => rfl | ⟨3, _⟩ => rfl⟩
  generalize m ((c : Thread nD τ).loc main_arg5) = z
  pointwise [denC, patC, k0_pay1]

end Cert.KernelIdeal.Hand

end
-- ==== Proof.Claims.lean ====
module

public import proofs.«01_k».proof.Defs
public import proofs.«01_k».proof.Proof.LaunchBits
public import proofs.«01_k».proof.Proof.SparseIdeal
public import proofs.«01_k».proof.Proof.Gen.Pre_labels_in_table
public import Idealize.ShloMosaic.Lib.Quiescent

@[expose] public section

set_option maxRecDepth 16384

noncomputable section

namespace Cert.KClaims

open Idealize.ShloMosaic Idealize.ShloMosaic.TcCoe Idealize.SL.Sem

/-- The kernel runs, leaves its arguments, and every semaphore ends at zero. -/
theorem frame_p : Cert.quiescent_Kernel (hKernel := Cert.Kernel.Gen.facts) := fun m ρ _ =>
  (θ_run Cert.Kernel.defs _ _).mono (fun r h => ⟨fun c => (h.1 c).2.2, h.2⟩) (Cert.Kernel.Hand.run_named (F := Bits) m ρ)

/-- So does its idealization. -/
theorem frame_pi : Cert.quiescent_KernelIdeal (hKernelIdeal := Cert.KernelIdeal.Gen.facts) := fun m ρ _ =>
  (θ_run Cert.KernelIdeal.defs _ _).mono (fun r h => ⟨fun c => (h.1 c).2.2, h.2⟩) (Cert.KernelIdeal.Hand.run_named (F := Ideal) m ρ)

/-- And under the precondition on the labels. -/
theorem frame_pi_pre : Cert.quiescent_KernelIdeal_pre_labels_in_table (hKernelIdeal := Cert.KernelIdeal.Gen.facts)
    (hPre_labels_in_table := Cert.Pre_labels_in_table.Gen.facts) := fun m ρ _ => frame_pi m ρ trivial

/-- The reference's idealization runs, leaves its arguments, and has no semaphore that could move. -/
theorem frame_ri : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- And under the precondition on the labels. -/
theorem frame_ri_pre : Cert.quiescent_ReferenceIdeal_pre_labels_in_table (hReferenceIdeal := Cert.ReferenceIdeal.Gen.facts)
    (hPre_labels_in_table := Cert.Pre_labels_in_table.Gen.facts) := fun m ρ _ => frame_ri m ρ trivial

/-- The one rewrite of the idealization: the reciprocal of the image extent, named. -/
theorem preserves : Cert.preserves_Kernel_KernelIdeal :=
  IdealRules.named_const.statement Cert.KernelIdeal.κ "inv_size" .f32 0x3A820821#32 ((1008⁻¹ : ℝ) : EReal) rfl

/-- The precondition read back: every label is below 4. -/
theorem labels_lt (m : (ℓ : Loc Cert.KernelIdeal.nD Cert.KernelIdeal.τ Cert.KernelIdeal.sig) → Buf (Elt Ideal) ℓ)
    (h : Cert.Pre_KernelIdeal_labels_in_table (hPre_labels_in_table := Cert.Pre_labels_in_table.Gen.facts) m)
    (c : Dev Cert.KernelIdeal.nD) (i : Cert.KernelIdeal.S32x64.Idx) :
    (m ((c.tc : Thread Cert.KernelIdeal.nD Cert.KernelIdeal.τ).loc Cert.KernelIdeal.main_arg1) i : BitVec 32).toInt < 4 := by
  have e := congrFun (h c) i
  have e' : IntOp.cmpi .slt (m ((c.tc : Thread Cert.KernelIdeal.nD Cert.KernelIdeal.τ).loc Cert.KernelIdeal.main_arg1) i : BitVec 32) 4#32 = 1#1 := e
  have l : BitVec.slt (m ((c.tc : Thread Cert.KernelIdeal.nD Cert.KernelIdeal.τ).loc Cert.KernelIdeal.main_arg1) i : BitVec 32) 4#32 = true :=
    (BitVec.ofBool_eq_iff_eq (b' := true)).1 e'
  exact BitVec.slt_iff_toInt_lt.1 l

/-- On the extended reals, for labels below 4, the two idealizations end with the same two results. -/
theorem algebraic : Cert.algebraic_KernelIdeal_ReferenceIdeal_pre_labels_in_table (hKernelIdeal := Cert.KernelIdeal.Gen.facts)
    (hReferenceIdeal := Cert.ReferenceIdeal.Gen.facts) (hPre_labels_in_table := Cert.Pre_labels_in_table.Gen.facts) := by
  intro m g m' g' hpre hagree
  refine ⟨Cert.KernelIdeal.Hand.spV m, fun c => transpose Cert.KernelIdeal.S32x256x72x72 [0, 3, 1, 2] (Cert.KernelIdeal.Hand.dnV m c)
      Cert.KernelIdeal.Facts₀.transposes_S32x72x72x256_S32x256x72x72_0_3_1_2,
    (θ_run Cert.KernelIdeal.defs _ _).mono (fun r h => h.1) (Cert.KernelIdeal.Hand.run_named (F := Ideal) m g),
    (θ_run Cert.ReferenceIdeal.defs _ _).mono (fun r h c => ⟨(h c).1.trans ?_, (h c).2.1.trans ?_, (h c).2.2⟩)
      (Cert.ReferenceIdeal.Value.run (F := Ideal) m' g')⟩
  · obtain ⟨a0, a1, a2, a3, a4, a5⟩ := hagree c
    rw [Cert.ReferenceIdeal.Hand.sparse_eq, Cert.KernelIdeal.Hand.sparse_result m c (labels_lt m hpre c)]
    exact congr (congr (congr (congr (congrArg _ (congrArg _ a0)) (congrArg _ a1)) a2) a3) a4
  · obtain ⟨a0, a1, a2, a3, a4, a5⟩ := hagree c
    refine Eq.trans ?_ (Cert.KernelIdeal.Hand.dense_result m c).symm
    rw [← a5]

end Cert.KClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_labels_in_table
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything claimed: the frames, the naming, and the two idealizations' equal results. -/
theorem claim : Cert.Claim :=
  ⟨Cert.Kernel.Gen.facts, Cert.KernelIdeal.Gen.facts, Cert.ReferenceIdeal.Gen.facts, Cert.Pre_labels_in_table.Gen.facts,
    KClaims.frame_p, KClaims.frame_pi, KClaims.frame_pi_pre, KClaims.frame_ri, KClaims.frame_ri_pre, KClaims.preserves, KClaims.algebraic⟩

end Cert.Proof

end
